-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S64x3x52x52x16 : Shape := ⟨5, ![64, 3, 52, 52, 16]⟩
abbrev S64x3x52x52x6 : Shape := ⟨5, ![64, 3, 52, 52, 6]⟩
abbrev S3x2 : Shape := ⟨2, ![3, 2]⟩
abbrev S_ : Shape := ⟨0, ![]⟩

class Facts : Prop where
  bcast_S_S64x3x52x52x16 : S_.BroadcastsInDim S64x3x52x52x16 (![] : Fin 0 → Fin S64x3x52x52x16.rank)
  bcast_S_S64x3x52x52x6 : S_.BroadcastsInDim S64x3x52x52x6 (![] : Fin 0 → Fin S64x3x52x52x6.rank)
  bcast_S_S3x2 : S_.BroadcastsInDim S3x2 (![] : Fin 0 → Fin S3x2.rank)

variable [Facts]

def fn {F : FTy → Type} [FloatOps F] (main_arg0 : FVec F S64x3x52x52x16 .f32) (main_arg1 : FVec F S64x3x52x52x6 .f32) (main_arg2 : FVec F S3x2 .f32) : IVec S64x3x52x52x16 1 × IVec S64x3x52x52x6 1 × IVec S3x2 1 :=
  let main_v0 : FVec F S64x3x52x52x16 .f32 := Host.absf main_arg0
  let main_cst : FVec F S_ .f32 := constant S_ .f32 0x7F800000#32
  let main_v1 : FVec F S64x3x52x52x16 .f32 := broadcastInDim S64x3x52x52x16 ![] bcast_S_S64x3x52x52x16 main_cst
  let main_v2 : IVec S64x3x52x52x16 1 := cmpf .olt main_v0 main_v1
  let main_cst_0 : FVec F S_ .f32 := constant S_ .f32 0x00000000#32
  let main_v3 : FVec F S64x3x52x52x6 .f32 := broadcastInDim S64x3x52x52x6 ![] bcast_S_S64x3x52x52x6 main_cst_0
  let main_v4 : IVec S64x3x52x52x6 1 := cmpf .oeq main_arg1 main_v3
  let main_cst_1 : FVec F S_ .f32 := constant S_ .f32 0x3F800000#32
  let main_v5 : FVec F S64x3x52x52x6 .f32 := broadcastInDim S64x3x52x52x6 ![] bcast_S_S64x3x52x52x6 main_cst_1
  let main_v6 : IVec S64x3x52x52x6 1 := cmpf .oeq main_arg1 main_v5
  let main_v7 : IVec S64x3x52x52x6 1 := ori main_v4 main_v6
  let main_cst_2 : FVec F S_ .f32 := constant S_ .f32 0x00000000#32
  let main_v8 : FVec F S3x2 .f32 := broadcastInDim S3x2 ![] bcast_S_S3x2 main_cst_2
  let main_v9 : IVec S3x2 1 := cmpf .ogt main_arg2 main_v8
  let main_cst_3 : FVec F S_ .f32 := constant S_ .f32 0x7F800000#32
  let main_v10 : FVec F S3x2 .f32 := broadcastInDim S3x2 ![] bcast_S_S3x2 main_cst_3
  let main_v11 : IVec S3x2 1 := cmpf .olt main_arg2 main_v10
  let main_v12 : IVec S3x2 1 := andi main_v9 main_v11
  (main_v2, main_v7, main_v12)
-- ==== Kernel.lean ====
abbrev S64x3x52x52x16 : Shape := ⟨5, ![64, 3, 52, 52, 16]⟩
abbrev S64x3x52x52x6 : Shape := ⟨5, ![64, 3, 52, 52, 6]⟩
abbrev S3x2 : Shape := ⟨2, ![3, 2]⟩
abbrev S6 : Shape := ⟨1, ![6]⟩
abbrev S16x64x3x52x52 : Shape := ⟨5, ![16, 64, 3, 52, 52]⟩
abbrev S64x3x52x52 : Shape := ⟨4, ![64, 3, 52, 52]⟩
abbrev S1x1 : Shape := ⟨2, ![1, 1]⟩
abbrev S16x4x3x52x52 : Shape := ⟨5, ![16, 4, 3, 52, 52]⟩
abbrev S4x3x52x52 : Shape := ⟨4, ![4, 3, 52, 52]⟩
abbrev S3x4x3x52x52 : Shape := ⟨5, ![3, 4, 3, 52, 52]⟩
abbrev S1x4x3x52x52 : Shape := ⟨5, ![1, 4, 3, 52, 52]⟩
abbrev S1 : Shape := ⟨1, ![1]⟩
abbrev S1x1x1x1x1 : Shape := ⟨5, ![1, 1, 1, 1, 1]⟩

abbrev nBuf : Space → Nat
  | .hbm => 7
  | .vmem => 5
  | .smem => 2
  | _ => 0

abbrev bufTy : (tb : Table) → Fin (tcTables nBuf tb) → BufTy
  | .hbm, ⟨0, _⟩ => ⟨S64x3x52x52x16, .f32⟩
  | .hbm, ⟨1, _⟩ => ⟨S64x3x52x52x6, .f32⟩
  | .hbm, ⟨2, _⟩ => ⟨S3x2, .f32⟩
  | .hbm, ⟨3, _⟩ => ⟨S6, .f32⟩
  | .hbm, ⟨4, _⟩ => ⟨S16x64x3x52x52, .f32⟩
  | .hbm, ⟨5, _⟩ => ⟨S64x3x52x52, .f32⟩
  | .hbm, ⟨6, _⟩ => ⟨S1x1, .f32⟩
  | .local _ .vmem, ⟨0, _⟩ => ⟨S16x4x3x52x52, .f32⟩
  | .local _ .vmem, ⟨1, _⟩ => ⟨S16x4x3x52x52, .f32⟩
  | .local _ .vmem, ⟨2, _⟩ => ⟨S4x3x52x52, .f32⟩
  | .local _ .vmem, ⟨3, _⟩ => ⟨S4x3x52x52, .f32⟩
  | .local _ .vmem, ⟨4, _⟩ => ⟨S3x4x3x52x52, .f32⟩
  | .local _ .smem, ⟨0, _⟩ => ⟨S3x2, .f32⟩
  | .local _ .smem, ⟨1, _⟩ => ⟨S1x1, .f32⟩
  | _, _ => ⟨S64x3x52x52x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_stg0_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v227 : BitVec 1 := Scalar.cmpi .eq arg0 c15_i32
  let v228 : BitVec 32 := Scalar.extui v227
  let c0_i32_140 : BitVec 32 := 0#32
  let v229 : BitVec 1 := Scalar.cmpi .ne v228 c0_i32_140
  v229

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, arg0.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S3x2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S16x4x3x52x52 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x3x52x52 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== ReferenceIdeal.lean ====
abbrev S64x3x52x52x16 : Shape := ⟨5, ![64, 3, 52, 52, 16]⟩
abbrev S64x3x52x52x6 : Shape := ⟨5, ![64, 3, 52, 52, 6]⟩
abbrev S3x2 : Shape := ⟨2, ![3, 2]⟩
abbrev S64x3x52x52x1 : Shape := ⟨5, ![64, 3, 52, 52, 1]⟩
abbrev S64x3x52x52 : Shape := ⟨4, ![64, 3, 52, 52]⟩
abbrev S_ : Shape := ⟨0, ![]⟩
abbrev S52 : Shape := ⟨1, ![52]⟩
abbrev S1x1x1x52 : Shape := ⟨4, ![1, 1, 1, 52]⟩
abbrev S1x1x52x1 : Shape := ⟨4, ![1, 1, 52, 1]⟩
abbrev S3x1 : Shape := ⟨2, ![3, 1]⟩
abbrev S3 : Shape := ⟨1, ![3]⟩
abbrev S1x3x1x1 : Shape := ⟨4, ![1, 3, 1, 1]⟩
abbrev S64x3x52x52x11 : Shape := ⟨5, ![64, 3, 52, 52, 11]⟩
abbrev S64x3x52x52x1x1 : Shape := ⟨6, ![64, 3, 52, 52, 1, 1]⟩
abbrev S1 : Shape := ⟨1, ![1]⟩
abbrev S1x1x1x1x1x1 : Shape := ⟨6, ![1, 1, 1, 1, 1, 1]⟩
abbrev S1x1 : Shape := ⟨2, ![1, 1]⟩

abbrev nBuf : Space → Nat
  | .hbm => 259
  | .vmem => 0
  | .smem => 0
  | _ => 0

abbrev hbmTy0_0 (i : Nat) : BufTy := match i % 128 with
  | 0 => ⟨S64x3x52x52x16, .f32⟩
  | 1 => ⟨S64x3x52x52x6, .f32⟩
  | 2 => ⟨S3x2, .f32⟩
  | 3 => ⟨S64x3x52x52x1, .f32⟩
  | 4 => ⟨S64x3x52x52, .f32⟩
  | 5 => ⟨S_, .f32⟩
  | 6 => ⟨S64x3x52x52, .f32⟩
  | 7 => ⟨S64x3x52x52, .i1⟩
  | 8 => ⟨S64x3x52x52, .f32⟩
  | 9 => ⟨S_, .f32⟩
  | 10 => ⟨S64x3x52x52, .f32⟩
  | 11 => ⟨S64x3x52x52, .i1⟩
  | 12 => ⟨S64x3x52x52, .f32⟩
  | 13 => ⟨S_, .f32⟩
  | 14 => ⟨S_, .f32⟩
  | 15 => ⟨S_, .f32⟩
  | 16 => ⟨S_, .f32⟩
  | 17 => ⟨S64x3x52x52x1, .f32⟩
  | 18 => ⟨S64x3x52x52, .f32⟩
  | 19 => ⟨S_, .f32⟩
  | 20 => ⟨S64x3x52x52, .f32⟩
  | 21 => ⟨S64x3x52x52, .f32⟩
  | 22 => ⟨S64x3x52x52, .f32⟩
  | 23 => ⟨S64x3x52x52, .f32⟩
  | 24 => ⟨S64x3x52x52, .i1⟩
  | 25 => ⟨S64x3x52x52, .f32⟩
  | 26 => ⟨S64x3x52x52, .f32⟩
  | 27 => ⟨S64x3x52x52, .f32⟩
  | 28 => ⟨S64x3x52x52, .f32⟩
  | 29 => ⟨S64x3x52x52, .f32⟩
  | 30 => ⟨S64x3x52x52, .f32⟩
  | 31 => ⟨S64x3x52x52, .f32⟩
  | 32 => ⟨S64x3x52x52, .f32⟩
  | 33 => ⟨S_, .f32⟩
  | 34 => ⟨S64x3x52x52, .f32⟩
  | 35 => ⟨S64x3x52x52, .f32⟩
  | 36 => ⟨S64x3x52x52, .f32⟩
  | 37 => ⟨S64x3x52x52, .f32⟩
  | 38 => ⟨S_, .f32⟩
  | 39 => ⟨S_, .f32⟩
  | 40 => ⟨S_, .f32⟩
  | 41 => ⟨S52, .f32⟩
  | 42 => ⟨S1x1x1x52, .f32⟩
  | 43 => ⟨S52, .f32⟩
  | 44 => ⟨S1x1x52x1, .f32⟩
  | 45 => ⟨S64x3x52x52x1, .f32⟩
  | 46 => ⟨S64x3x52x52, .f32⟩
  | 47 => ⟨S64x3x52x52, .f32⟩
  | 48 => ⟨S64x3x52x52, .f32⟩
  | 49 => ⟨S_, .f32⟩
  | 50 => ⟨S64x3x52x52, .f32⟩
  | 51 => ⟨S64x3x52x52, .f32⟩
  | 52 => ⟨S_, .f32⟩
  | 53 => ⟨S64x3x52x52, .f32⟩
  | 54 => ⟨S64x3x52x52, .f32⟩
  | 55 => ⟨S64x3x52x52x1, .f32⟩
  | 56 => ⟨S64x3x52x52, .f32⟩
  | 57 => ⟨S64x3x52x52, .f32⟩
  | 58 => ⟨S64x3x52x52, .f32⟩
  | 59 => ⟨S_, .f32⟩
  | 60 => ⟨S64x3x52x52, .f32⟩
  | 61 => ⟨S64x3x52x52, .f32⟩
  | 62 => ⟨S_, .f32⟩
  | 63 => ⟨S64x3x52x52, .f32⟩
  | 64 => ⟨S64x3x52x52, .f32⟩
  | 65 => ⟨S64x3x52x52x1, .f32⟩
  | 66 => ⟨S64x3x52x52, .f32⟩
  | 67 => ⟨S64x3x52x52x1, .f32⟩
  | 68 => ⟨S64x3x52x52, .f32⟩
  | 69 => ⟨S3x1, .f32⟩
  | 70 => ⟨S3, .f32⟩
  | 71 => ⟨S1x3x1x1, .f32⟩
  | 72 => ⟨S3x1, .f32⟩
  | 73 => ⟨S3, .f32⟩
  | 74 => ⟨S1x3x1x1, .f32⟩
  | 75 => ⟨S64x3x52x52, .f32⟩
  | 76 => ⟨S64x3x52x52, .f32⟩
  | 77 => ⟨S64x3x52x52, .f32⟩
  | 78 => ⟨S64x3x52x52, .f32⟩
  | 79 => ⟨S64x3x52x52, .f32⟩
  | 80 => ⟨S64x3x52x52, .f32⟩
  | 81 => ⟨S64x3x52x52, .f32⟩
  | 82 => ⟨S64x3x52x52, .f32⟩
  | 83 => ⟨S64x3x52x52, .f32⟩
  | 84 => ⟨S64x3x52x52, .f32⟩
  | 85 => ⟨S64x3x52x52x1, .f32⟩
  | 86 => ⟨S64x3x52x52, .f32⟩
  | 87 => ⟨S64x3x52x52x1, .f32⟩
  | 88 => ⟨S64x3x52x52, .f32⟩
  | 89 => ⟨S64x3x52x52x1, .f32⟩
  | 90 => ⟨S64x3x52x52, .f32⟩
  | 91 => ⟨S64x3x52x52x1, .f32⟩
  | 92 => ⟨S64x3x52x52, .f32⟩
  | 93 => ⟨S_, .f32⟩
  | 94 => ⟨S64x3x52x52, .f32⟩
  | 95 => ⟨S64x3x52x52, .f32⟩
  | 96 => ⟨S64x3x52x52, .f32⟩
  | 97 => ⟨S_, .f32⟩
  | 98 => ⟨S64x3x52x52, .f32⟩
  | 99 => ⟨S64x3x52x52, .f32⟩
  | 100 => ⟨S64x3x52x52, .f32⟩
  | 101 => ⟨S_, .f32⟩
  | 102 => ⟨S64x3x52x52, .f32⟩
  | 103 => ⟨S64x3x52x52, .f32⟩
  | 104 => ⟨S64x3x52x52, .f32⟩
  | 105 => ⟨S_, .f32⟩
  | 106 => ⟨S64x3x52x52, .f32⟩
  | 107 => ⟨S64x3x52x52, .f32⟩
  | 108 => ⟨S64x3x52x52, .f32⟩
  | 109 => ⟨S_, .f32⟩
  | 110 => ⟨S64x3x52x52, .f32⟩
  | 111 => ⟨S64x3x52x52, .f32⟩
  | 112 => ⟨S64x3x52x52, .f32⟩
  | 113 => ⟨S_, .f32⟩
  | 114 => ⟨S64x3x52x52, .f32⟩
  | 115 => ⟨S64x3x52x52, .f32⟩
  | 116 => ⟨S64x3x52x52, .f32⟩
  | 117 => ⟨S_, .f32⟩
  | 118 => ⟨S64x3x52x52, .f32⟩
  | 119 => ⟨S64x3x52x52, .f32⟩
  | 120 => ⟨S64x3x52x52, .f32⟩
  | 121 => ⟨S_, .f32⟩
  | 122 => ⟨S64x3x52x52, .f32⟩
  | 123 => ⟨S64x3x52x52, .f32⟩
  | 124 => ⟨S64x3x52x52, .f32⟩
  | 125 => ⟨S64x3x52x52, .f32⟩
  | 126 => ⟨S64x3x52x52, .f32⟩
  | 127 => ⟨S64x3x52x52, .f32⟩
  | _ => ⟨S64x3x52x52x16, .f32⟩

abbrev hbmTy0_1 (i : Nat) : BufTy := match i % 128 with
  | 0 => ⟨S64x3x52x52, .f32⟩
  | 1 => ⟨S64x3x52x52, .f32⟩
  | 2 => ⟨S_, .i32⟩
  | 3 => ⟨S_, .f32⟩
  | 4 => ⟨S64x3x52x52, .f32⟩
  | 5 => ⟨S64x3x52x52, .f32⟩
  | 6 => ⟨S64x3x52x52, .f32⟩
  | 7 => ⟨S_, .i32⟩
  | 8 => ⟨S_, .f32⟩
  | 9 => ⟨S64x3x52x52, .f32⟩
  | 10 => ⟨S64x3x52x52, .f32⟩
  | 11 => ⟨S64x3x52x52, .f32⟩
  | 12 => ⟨S64x3x52x52, .f32⟩
  | 13 => ⟨S64x3x52x52, .f32⟩
  | 14 => ⟨S64x3x52x52, .f32⟩
  | 15 => ⟨S64x3x52x52, .f32⟩
  | 16 => ⟨S64x3x52x52, .f32⟩
  | 17 => ⟨S64x3x52x52, .f32⟩
  | 18 => ⟨S64x3x52x52, .f32⟩
  | 19 => ⟨S64x3x52x52, .f32⟩
  | 20 => ⟨S64x3x52x52, .f32⟩
  | 21 => ⟨S64x3x52x52, .f32⟩
  | 22 => ⟨S_, .f32⟩
  | 23 => ⟨S64x3x52x52, .f32⟩
  | 24 => ⟨S64x3x52x52, .f32⟩
  | 25 => ⟨S64x3x52x52, .f32⟩
  | 26 => ⟨S_, .f32⟩
  | 27 => ⟨S64x3x52x52, .f32⟩
  | 28 => ⟨S64x3x52x52, .f32⟩
  | 29 => ⟨S64x3x52x52, .f32⟩
  | 30 => ⟨S64x3x52x52, .f32⟩
  | 31 => ⟨S64x3x52x52, .i1⟩
  | 32 => ⟨S64x3x52x52, .f32⟩
  | 33 => ⟨S64x3x52x52, .f32⟩
  | 34 => ⟨S64x3x52x52, .f32⟩
  | 35 => ⟨S64x3x52x52, .f32⟩
  | 36 => ⟨S64x3x52x52, .f32⟩
  | 37 => ⟨S64x3x52x52, .f32⟩
  | 38 => ⟨S64x3x52x52, .f32⟩
  | 39 => ⟨S64x3x52x52, .f32⟩
  | 40 => ⟨S64x3x52x52, .f32⟩
  | 41 => ⟨S64x3x52x52, .f32⟩
  | 42 => ⟨S64x3x52x52, .f32⟩
  | 43 => ⟨S_, .f32⟩
  | 44 => ⟨S_, .f32⟩
  | 45 => ⟨S_, .f32⟩
  | 46 => ⟨S64x3x52x52, .f32⟩
  | 47 => ⟨S64x3x52x52, .f32⟩
  | 48 => ⟨S64x3x52x52, .f32⟩
  | 49 => ⟨S64x3x52x52, .f32⟩
  | 50 => ⟨S64x3x52x52, .f32⟩
  | 51 => ⟨S64x3x52x52, .f32⟩
  | 52 => ⟨S_, .f32⟩
  | 53 => ⟨S64x3x52x52, .f32⟩
  | 54 => ⟨S64x3x52x52, .f32⟩
  | 55 => ⟨S64x3x52x52, .f32⟩
  | 56 => ⟨S64x3x52x52, .f32⟩
  | 57 => ⟨S64x3x52x52, .f32⟩
  | 58 => ⟨S_, .f32⟩
  | 59 => ⟨S64x3x52x52, .f32⟩
  | 60 => ⟨S64x3x52x52, .f32⟩
  | 61 => ⟨S64x3x52x52, .f32⟩
  | 62 => ⟨S64x3x52x52, .f32⟩
  | 63 => ⟨S64x3x52x52, .f32⟩
  | 64 => ⟨S64x3x52x52, .f32⟩
  | 65 => ⟨S64x3x52x52, .f32⟩
  | 66 => ⟨S64x3x52x52, .f32⟩
  | 67 => ⟨S64x3x52x52, .f32⟩
  | 68 => ⟨S64x3x52x52, .f32⟩
  | 69 => ⟨S64x3x52x52, .f32⟩
  | 70 => ⟨S64x3x52x52, .f32⟩
  | 71 => ⟨S64x3x52x52, .f32⟩
  | 72 => ⟨S64x3x52x52, .f32⟩
  | 73 => ⟨S64x3x52x52, .f32⟩
  | 74 => ⟨S_, .f32⟩
  | 75 => ⟨S_, .f32⟩
  | 76 => ⟨S_, .f32⟩
  | 77 => ⟨S_, .f32⟩
  | 78 => ⟨S_, .f32⟩
  | 79 => ⟨S64x3x52x52x11, .f32⟩
  | 80 => ⟨S64x3x52x52x1, .f32⟩
  | 81 => ⟨S64x3x52x52, .f32⟩
  | 82 => ⟨S64x3x52x52, .i32⟩
  | 83 => ⟨S_, .f32⟩
  | 84 => ⟨S64x3x52x52, .f32⟩
  | 85 => ⟨S64x3x52x52x1, .f32⟩
  | 86 => ⟨S64x3x52x52x11, .f32⟩
  | 87 => ⟨S64x3x52x52x11, .f32⟩
  | 88 => ⟨S64x3x52x52x11, .f32⟩
  | 89 => ⟨S_, .f32⟩
  | 90 => ⟨S64x3x52x52, .f32⟩
  | 91 => ⟨S64x3x52x52, .f32⟩
  | 92 => ⟨S64x3x52x52, .f32⟩
  | 93 => ⟨S64x3x52x52, .f32⟩
  | 94 => ⟨S64x3x52x52x1, .i32⟩
  | 95 => ⟨S_, .i32⟩
  | 96 => ⟨S64x3x52x52x1, .i32⟩
  | 97 => ⟨S64x3x52x52x1, .i1⟩
  | 98 => ⟨S_, .i32⟩
  | 99 => ⟨S64x3x52x52x1, .i32⟩
  | 100 => ⟨S64x3x52x52x1, .i32⟩
  | 101 => ⟨S64x3x52x52x1, .i32⟩
  | 102 => ⟨S64x3x52x52x1x1, .i32⟩
  | 103 => ⟨S1, .i32⟩
  | 104 => ⟨S_, .i32⟩
  | 105 => ⟨S64x3x52x52x1x1, .i32⟩
  | 106 => ⟨S64x3x52x52x1x1, .i1⟩
  | 107 => ⟨S1x1x1x1x1x1, .i32⟩
  | 108 => ⟨S64x3x52x52x1x1, .i32⟩
  | 109 => ⟨S64x3x52x52x1x1, .i1⟩
  | 110 => ⟨S64x3x52x52x1x1, .i1⟩
  | 111 => ⟨S_, .i1⟩
  | 112 => ⟨S64x3x52x52x1, .i1⟩
  | 113 => ⟨S64x3x52x52x1, .f32⟩
  | 114 => ⟨S_, .f32⟩
  | 115 => ⟨S64x3x52x52x1, .f32⟩
  | 116 => ⟨S64x3x52x52x1, .f32⟩
  | 117 => ⟨S64x3x52x52, .f32⟩
  | 118 => ⟨S64x3x52x52, .f32⟩
  | 119 => ⟨S64x3x52x52, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S64x3x52x52x16, .f32⟩

abbrev hbmTy0_2 (i : Nat) : BufTy := match i % 128 with
  | 0 => ⟨S_, .f32⟩
  | 1 => ⟨S_, .f32⟩
  | 2 => ⟨S1x1, .f32⟩
  | _ => ⟨S64x3x52x52x16, .f32⟩

abbrev hbmTy (i : Nat) : BufTy := match i / 128 with
  | 0 => hbmTy0_0 i
  | 1 => hbmTy0_1 i
  | 2 => hbmTy0_2 i
  | _ => ⟨S64x3x52x52x16, .f32⟩

abbrev bufTy : (tb : Table) → Fin (tcTables nBuf tb) → BufTy
  | .hbm, ⟨i, _⟩ => hbmTy i
  | _, _ => ⟨S64x3x52x52x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_6 : Ref sig .tc := ⟨.hbm, 49, rfl⟩
abbrev main_v39 : Ref sig .tc := ⟨.hbm, 50, rfl⟩
abbrev main_v40 : Ref sig .tc := ⟨.hbm, 51, rfl⟩
abbrev main_cst_7 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_cst_8 : Ref sig .tc := ⟨.hbm, 59, rfl⟩
abbrev main_v47 : Ref sig .tc := ⟨.hbm, 60, rfl⟩
abbrev main_v48 : Ref sig .tc := ⟨.hbm, 61, rfl⟩
abbrev main_cst_9 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_cst_10 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_cst_11 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_cst_12 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_cst_13 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_cst_14 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_15 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_cst_16 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_cst_17 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_c : Ref sig .tc := ⟨.hbm, 130, rfl⟩
abbrev main_call0_v0 : Ref sig .tc := ⟨.hbm, 131, rfl⟩
abbrev main_call0_v1 : Ref sig .tc := ⟨.hbm, 132, rfl⟩
abbrev main_v108 : Ref sig .tc := ⟨.hbm, 133, rfl⟩
abbrev main_v109 : Ref sig .tc := ⟨.hbm, 134, rfl⟩
abbrev main_c_18 : Ref sig .tc := ⟨.hbm, 135, rfl⟩
abbrev main_call1_v0 : Ref sig .tc := ⟨.hbm, 136, rfl⟩
abbrev main_call1_v1 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_cst_19 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_cst_20 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_cst_21 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_cst_22 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_cst_23 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_v161 : Ref sig .tc := ⟨.hbm, 194, rfl⟩
abbrev main_v162 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_v167 : Ref sig .tc := ⟨.hbm, 200, rfl⟩
abbrev main_v168 : Ref sig .tc := ⟨.hbm, 201, rfl⟩
abbrev main_cst_24 : Ref sig .tc := ⟨.hbm, 202, rfl⟩
abbrev main_v169 : Ref sig .tc := ⟨.hbm, 203, rfl⟩
abbrev main_cst_25 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_cst_26 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_cst_27 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_call2_c : Ref sig .tc := ⟨.hbm, 223, rfl⟩
abbrev main_call2_v0 : Ref sig .tc := ⟨.hbm, 224, rfl⟩
abbrev main_call2_v1 : Ref sig .tc := ⟨.hbm, 225, rfl⟩
abbrev main_call2_c_0 : Ref sig .tc := ⟨.hbm, 226, rfl⟩
abbrev main_call2_v2 : Ref sig .tc := ⟨.hbm, 227, rfl⟩
abbrev main_call2_v3 : Ref sig .tc := ⟨.hbm, 228, rfl⟩
abbrev main_call2_v4 : Ref sig .tc := ⟨.hbm, 229, rfl⟩
abbrev main_call2_v5 : Ref sig .tc := ⟨.hbm, 230, rfl⟩
abbrev main_call2_c_1 : Ref sig .tc := ⟨.hbm, 231, rfl⟩
abbrev main_call2_c_2 : Ref sig .tc := ⟨.hbm, 232, rfl⟩
abbrev main_call2_v6 : Ref sig .tc := ⟨.hbm, 233, rfl⟩
abbrev main_call2_v7 : Ref sig .tc := ⟨.hbm, 234, rfl⟩
abbrev main_call2_v8 : Ref sig .tc := ⟨.hbm, 235, rfl⟩
abbrev main_call2_v9 : Ref sig .tc := ⟨.hbm, 236, rfl⟩
abbrev main_call2_v10 : Ref sig .tc := ⟨.hbm, 237, rfl⟩
abbrev main_call2_v11 : Ref sig .tc := ⟨.hbm, 238, rfl⟩
abbrev main_call2_c_3 : Ref sig .tc := ⟨.hbm, 239, rfl⟩
abbrev main_call2_v12 : Ref sig .tc := ⟨.hbm, 240, rfl⟩
abbrev main_call2_v13 : Ref sig .tc := ⟨.hbm, 241, rfl⟩
abbrev main_call2_cst : Ref sig .tc := ⟨.hbm, 242, rfl⟩
abbrev main_call2_v14 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_cst_28 : Ref sig .tc := ⟨.hbm, 248, rfl⟩
abbrev main_v190 : Ref sig .tc := ⟨.hbm, 249, rfl⟩
abbrev main_v191 : Ref sig .tc := ⟨.hbm, 250, rfl⟩
abbrev main_cst_29 : Ref sig .tc := ⟨.hbm, 251, rfl⟩
abbrev main_v192 : Ref sig .tc := ⟨.hbm, 252, rfl⟩
abbrev main_v193 : Ref sig .tc := ⟨.hbm, 253, rfl⟩
abbrev main_cst_30 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩

abbrev nD : Nat := 1
abbrev τ : Topo := Topo.v7x

variable {F : FTy → Type} [FloatOps F]
-- ==== Proof.Consts.lean ====
/- The float words the two programs spell out, as the real numbers they denote, and the arithmetic of the extended
   reals on finite values: sums, products, quotients, exponentials and the like of reals are the reals they are
   over ℝ. -/
module

public import Idealize.ShloMosaic.Lib.Pipeline.ValueKit
public import Idealize.ShloMosaic.PureOps.Ideal

@[expose] public section
noncomputable section
namespace Cert.Yolo
open Idealize.ShloMosaic

/-- The float nearest 1e-6, which keeps the box overlap's denominator positive. -/
def eps6 : ℝ := 8796093 / 2 ^ 43
/-- The float nearest 1e-16, which keeps the logarithm of a size ratio finite. -/
def eps16 : ℝ := 15111573 / 2 ^ 77

theorem eps6_pos : 0 < eps6 := by unfold eps6; positivity
theorem eps16_pos : 0 < eps16 := by unfold eps16; positivity

theorem w_0 : Ideal.ofBits .f32 0x00000000#32 = ((0 : ℝ) : EReal) := by
  simp [Ideal.ofBits, Ideal.ieee, -EReal.coe_mul]
theorem w_1 : Ideal.ofBits .f32 0x3F800000#32 = ((1 : ℝ) : EReal) := by
  simp [Ideal.ofBits, Ideal.ieee, -EReal.coe_mul]; norm_num
theorem w_2 : Ideal.ofBits .f32 0x40000000#32 = ((2 : ℝ) : EReal) := by
  simp [Ideal.ofBits, Ideal.ieee, -EReal.coe_mul]; norm_num
theorem w_4 : Ideal.ofBits .f32 0x40800000#32 = ((4 : ℝ) : EReal) := by
  simp [Ideal.ofBits, Ideal.ieee, -EReal.coe_mul]; norm_num
theorem w_8 : Ideal.ofBits .f32 0x41000000#32 = ((8 : ℝ) : EReal) := by
  simp [Ideal.ofBits, Ideal.ieee, -EReal.coe_mul]; norm_num
theorem w_10 : Ideal.ofBits .f32 0x41200000#32 = ((10 : ℝ) : EReal) := by
  simp [Ideal.ofBits, Ideal.ieee, -EReal.coe_mul]; norm_num
theorem w_16 : Ideal.ofBits .f32 0x41800000#32 = ((16 : ℝ) : EReal) := by
  simp [Ideal.ofBits, Ideal.ieee, -EReal.coe_mul]; norm_num
theorem w_32 : Ideal.ofBits .f32 0x42000000#32 = ((32 : ℝ) : EReal) := by
  simp [Ideal.ofBits, Ideal.ieee, -EReal.coe_mul]; norm_num
theorem w_half : Ideal.ofBits .f32 0x3F000000#32 = ((1 / 2 : ℝ) : EReal) := by
  simp [Ideal.ofBits, Ideal.ieee, -EReal.coe_mul]; norm_num
theorem w_quarter : Ideal.ofBits .f32 0x3E800000#32 = ((1 / 4 : ℝ) : EReal) := by
  simp [Ideal.ofBits, Ideal.ieee, -EReal.coe_mul]; norm_num
theorem w_eighth : Ideal.ofBits .f32 0x3E000000#32 = ((1 / 8 : ℝ) : EReal) := by
  simp [Ideal.ofBits, Ideal.ieee, -EReal.coe_mul]; norm_num
theorem w_16th : Ideal.ofBits .f32 0x3D800000#32 = ((1 / 16 : ℝ) : EReal) := by
  simp [Ideal.ofBits, Ideal.ieee, -EReal.coe_mul]; norm_num
theorem w_32nd : Ideal.ofBits .f32 0x3D000000#32 = ((1 / 32 : ℝ) : EReal) := by
  simp [Ideal.ofBits, Ideal.ieee, -EReal.coe_mul]; norm_num
theorem w_5half : Ideal.ofBits .f32 0x40200000#32 = ((5 / 2 : ℝ) : EReal) := by
  simp [Ideal.ofBits, Ideal.ieee, -EReal.coe_mul]; norm_num
/-- The number of cells, 64 · 3 · 52 · 52. -/
theorem w_cells : Ideal.ofBits .f32 0x48FD8000#32 = ((519168 : ℝ) : EReal) := by
  simp [Ideal.ofBits, Ideal.ieee, -EReal.coe_mul]; norm_num
theorem w_eps6 : Ideal.ofBits .f32 0x358637BD#32 = (eps6 : EReal) := by
  simp [Ideal.ofBits, Ideal.ieee, eps6, -EReal.coe_mul]; norm_num
theorem w_eps16 : Ideal.ofBits .f32 0x24E69595#32 = (eps16 : EReal) := by
  simp [Ideal.ofBits, Ideal.ieee, eps16, -EReal.coe_mul]; norm_num
theorem w_top : Ideal.ofBits .f32 0x7F800000#32 = (⊤ : EReal) := by
  simp [Ideal.ofBits, Ideal.ieee, -EReal.coe_mul]
theorem w_bot : Ideal.ofBits .f32 0xFF800000#32 = (⊥ : EReal) := by
  simp [Ideal.ofBits, Ideal.ieee, -EReal.coe_mul]

/-- Over a nonzero real denominator the quotient of reals is the real quotient. -/
theorem div_real {a b : ℝ} (h : b ≠ 0) : Ideal.div (a : EReal) (b : EReal) = ((a / b : ℝ) : EReal) := by
  rw [Ideal.div_coe h, ← EReal.coe_mul]; congr 1; ring

/-- Zero over zero is the undefined value. -/
theorem div_zero_zero : Ideal.div ((0 : ℝ) : EReal) ((0 : ℝ) : EReal) = ⊥ := by
  simp [Ideal.div]

/-- The logarithm of a positive real is the real logarithm. -/
theorem log_real {a : ℝ} (h : 0 < a) : Ideal.log (a : EReal) = ((Real.log a : ℝ) : EReal) := by
  rw [Ideal.log_coe, if_neg (not_le.mpr h)]

/-- `log (1 + a)` of a real above −1 is the real logarithm. -/
theorem log1p_real {a : ℝ} (h : 0 < 1 + a) : Ideal.log1p (a : EReal) = ((Real.log (1 + a) : ℝ) : EReal) := by
  unfold Ideal.log1p; rw [← EReal.coe_one, ← EReal.coe_add, log_real h]

theorem max_real (a b : ℝ) : max (a : EReal) (b : EReal) = ((max a b : ℝ) : EReal) := (EReal.coe_strictMono.monotone.map_max).symm
theorem min_real (a b : ℝ) : min (a : EReal) (b : EReal) = ((min a b : ℝ) : EReal) := (EReal.coe_strictMono.monotone.map_min).symm

/-- A finite sum of reals in the extended reals is the real sum. -/
theorem sum_real {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

end Cert.Yolo
end
-- ==== Proof.Cell.lean ====
/- What one cell of the loss is, over the real numbers: `p` the cell's sixteen predictions, `t` its six targets,
   `aw`, `ah` its anchor's size, `gx`, `gy` its column and row. -/
module

public import proofs.«01_k».proof.Proof.Consts

@[expose] public section
noncomputable section
namespace Cert.Yolo
open Idealize.ShloMosaic

/-- The sigmoid. -/
def sig (x : ℝ) : ℝ := (1 + Real.exp (-x))⁻¹
/-- The softplus, `log (1 + e^x)`. -/
def softplus (x : ℝ) : ℝ := Real.log (1 + Real.exp x)

/-- The overlap, on one axis, of a segment of centre `c` and length `l` with one of centre `c'` and length `l'`. -/
def overlap (c l c' l' : ℝ) : ℝ :=
  max 0 (min (c + 1 / 2 * l) (c' + 1 / 2 * l') - max (c - 1 / 2 * l) (c' - 1 / 2 * l'))

variable (p : Fin 16 → ℝ) (t : Fin 6 → ℝ) (aw ah gx gy : ℝ)

/-- The area in which the predicted box and the target box meet. -/
def inter : ℝ :=
  overlap (gx + sig (p 1)) (aw * Real.exp (p 3)) (t 1) (t 3) * overlap (gy + sig (p 2)) (ah * Real.exp (p 4)) (t 2) (t 4)

/-- The denominator of the intersection over union. -/
def unionArea : ℝ :=
  aw * Real.exp (p 3) * (ah * Real.exp (p 4)) + t 3 * t 4 - inter p t aw ah gx gy + eps6

/-- The objectness loss of a cell that holds an object: cross entropy of the logit against the intersection over
    union. -/
def objTerm : ℝ := softplus (p 0) - p 0 * (inter p t aw ah gx gy / unionArea p t aw ah gx gy)

/-- The squared coordinate errors. -/
def boxTerm : ℝ :=
  (sig (p 1) - (t 1 - gx)) * (sig (p 1) - (t 1 - gx)) + (sig (p 2) - (t 2 - gy)) * (sig (p 2) - (t 2 - gy))
    + (p 3 - Real.log (eps16 + t 3 / aw)) * (p 3 - Real.log (eps16 + t 3 / aw))
    + (p 4 - Real.log (eps16 + t 4 / ah)) * (p 4 - Real.log (eps16 + t 4 / ah))

/-- The sum of the exponentials of the eleven class logits. -/
def expSum : ℝ :=
  Real.exp (p 5) + Real.exp (p 6) + Real.exp (p 7) + Real.exp (p 8) + Real.exp (p 9) + Real.exp (p 10)
    + Real.exp (p 11) + Real.exp (p 12) + Real.exp (p 13) + Real.exp (p 14) + Real.exp (p 15)

/-- The class loss: the log-sum-exp of the eleven logits less the logit of the target class, class 0 or class 1. -/
def clsTerm : ℝ := Real.log (expSum p) - (p 5 + t 5 * (p 6 - p 5))

/-- The six target bits packed into one number. -/
def packed : ℝ := t 0 + t 1 * 2 + t 2 * 4 + t 3 * 8 + t 4 * 16 + t 5 * 32

theorem overlap_nonneg (c l c' l' : ℝ) : 0 ≤ overlap c l c' l' := le_max_left _ _

/-- The overlap is at most the first segment's length; -/
theorem overlap_le {c l c' l' : ℝ} (h : 0 ≤ l) : overlap c l c' l' ≤ l := by
  unfold overlap
  refine max_le h ?_
  have h1 := min_le_left (c + 1 / 2 * l) (c' + 1 / 2 * l')
  have h2 := le_max_left (c - 1 / 2 * l) (c' - 1 / 2 * l')
  linarith

variable {p t aw ah gx gy}

/-- so the denominator is positive. -/
theorem unionArea_pos (haw : 0 < aw) (hah : 0 < ah) (h3 : 0 ≤ t 3) (h4 : 0 ≤ t 4) : 0 < unionArea p t aw ah gx gy := by
  unfold unionArea inter
  have hw : 0 < aw * Real.exp (p 3) := mul_pos haw (Real.exp_pos _)
  have hh : 0 < ah * Real.exp (p 4) := mul_pos hah (Real.exp_pos _)
  have h := mul_le_mul (overlap_le (c := gx + sig (p 1)) (c' := t 1) (l' := t 3) hw.le)
    (overlap_le (c := gy + sig (p 2)) (c' := t 2) (l' := t 4) hh.le) (overlap_nonneg _ _ _ _) hw.le
  have h34 := mul_nonneg h3 h4
  have := eps6_pos
  linarith

theorem expSum_pos : 0 < expSum p := by unfold expSum; positivity

theorem ratio_pos {a b : ℝ} (ha : 0 ≤ a) (hb : 0 < b) : 0 < eps16 + a / b := by
  have := eps16_pos
  have := div_nonneg ha hb.le
  linarith

/-- A target bit is 0 or 1. -/
def IsBit (a : ℝ) : Prop := a = 0 ∨ a = 1

theorem IsBit.nonneg {a : ℝ} (h : IsBit a) : 0 ≤ a := by rcases h with h | h <;> rw [h]; norm_num
theorem IsBit.lt_two {a : ℝ} (h : IsBit a) : a < 2 := by rcases h with h | h <;> rw [h] <;> norm_num
theorem IsBit.int {a : ℝ} (h : IsBit a) : ∃ n : ℤ, a = n := by
  rcases h with h | h
  · exact ⟨0, by simp [h]⟩
  · exact ⟨1, by simp [h]⟩

/-- The floor of a bit plus a fraction below one is the bit. -/
theorem floor_bit {b r x : ℝ} (hb : IsBit b) (h : x = b + r) (h0 : 0 ≤ r) (h1 : r < 1) : (⌊x⌋ : ℝ) = b := by
  obtain ⟨n, rfl⟩ := hb.int
  have : ⌊x⌋ = n := by rw [Int.floor_eq_iff]; constructor <;> linarith
  rw [this]

section Unpack
variable (ht : ∀ k, IsBit (t k))
include ht
/-- Taking the packed number's bits off from the top gives the targets back: the topmost, -/
theorem unpack5 : (⌊packed t * (1 / 32)⌋ : ℝ) = t 5 := by
  have := fun k => (ht k).nonneg
  have h := fun k => (ht k)
  refine floor_bit (ht 5) (r := (t 0 + t 1 * 2 + t 2 * 4 + t 3 * 8 + t 4 * 16) / 32) (by unfold packed; ring) ?_ ?_
  · have h0 := this 0; have h1 := this 1; have h2 := this 2; have h3 := this 3; have h4 := this 4; positivity
  · rcases h 0 with h0 | h0 <;> rcases h 1 with h1 | h1 <;> rcases h 2 with h2 | h2 <;> rcases h 3 with h3 | h3 <;> rcases h 4 with h4 | h4 <;> rw [h0, h1, h2, h3, h4] <;> norm_num
/-- the next, -/
theorem unpack4 : (⌊(packed t - 32 * t 5) * (1 / 16)⌋ : ℝ) = t 4 := by
  have := fun k => (ht k).nonneg
  have h := fun k => (ht k)
  refine floor_bit (ht 4) (r := (t 0 + t 1 * 2 + t 2 * 4 + t 3 * 8) / 16) (by unfold packed; ring) ?_ ?_
  · have h0 := this 0; have h1 := this 1; have h2 := this 2; have h3 := this 3; positivity
  · rcases h 0 with h0 | h0 <;> rcases h 1 with h1 | h1 <;> rcases h 2 with h2 | h2 <;> rcases h 3 with h3 | h3 <;> rw [h0, h1, h2, h3] <;> norm_num
/-- the next, -/
theorem unpack3 : (⌊(packed t - 32 * t 5 - 16 * t 4) * (1 / 8)⌋ : ℝ) = t 3 := by
  have := fun k => (ht k).nonneg
  have h := fun k => (ht k)
  refine floor_bit (ht 3) (r := (t 0 + t 1 * 2 + t 2 * 4) / 8) (by unfold packed; ring) ?_ ?_
  · have h0 := this 0; have h1 := this 1; have h2 := this 2; positivity
  · rcases h 0 with h0 | h0 <;> rcases h 1 with h1 | h1 <;> rcases h 2 with h2 | h2 <;> rw [h0, h1, h2] <;> norm_num
/-- the next, -/
theorem unpack2 : (⌊(packed t - 32 * t 5 - 16 * t 4 - 8 * t 3) * (1 / 4)⌋ : ℝ) = t 2 := by
  have := fun k => (ht k).nonneg
  have h := fun k => (ht k)
  refine floor_bit (ht 2) (r := (t 0 + t 1 * 2) / 4) (by unfold packed; ring) ?_ ?_
  · have h0 := this 0; have h1 := this 1; positivity
  · rcases h 0 with h0 | h0 <;> rcases h 1 with h1 | h1 <;> rw [h0, h1] <;> norm_num
/-- the next, -/
theorem unpack1 : (⌊(packed t - 32 * t 5 - 16 * t 4 - 8 * t 3 - 4 * t 2) * (1 / 2)⌋ : ℝ) = t 1 := by
  have := fun k => (ht k).nonneg
  have h := fun k => (ht k)
  refine floor_bit (ht 1) (r := t 0 / 2) (by unfold packed; ring) ?_ ?_
  · have h0 := this 0; positivity
  · rcases h 0 with h0 | h0 <;> rw [h0] <;> norm_num
omit ht in
/-- and the last. -/
theorem unpack0 : packed t - 32 * t 5 - 16 * t 4 - 8 * t 3 - 4 * t 2 - 2 * t 1 = t 0 := by unfold packed; ring
end Unpack

/-! ## The same quantities as the plain text of the loss spells them -/

/-- The softplus computed without overflow. -/
theorem softplus_eq (x : ℝ) : max 0 x + Real.log (1 + Real.exp (-|x|)) = softplus x := by
  unfold softplus
  rcases le_total 0 x with h | h
  · rw [max_eq_right h, abs_of_nonneg h]
    have : 1 + Real.exp x = Real.exp x * (1 + Real.exp (-x)) := by rw [mul_add, ← Real.exp_add]; simp [add_comm]
    rw [this, Real.log_mul (Real.exp_ne_zero _) (by positivity), Real.log_exp]
  · rw [max_eq_left h, abs_of_nonpos h]; simp

/-- A log-sum-exp shifted by any number is the log-sum-exp. -/
theorem shifted_lse {ι : Type*} (s : Finset ι) (hs : s.Nonempty) (f : ι → ℝ) (M : ℝ) :
    Real.log (∑ k ∈ s, Real.exp (f k - M)) + M = Real.log (∑ k ∈ s, Real.exp (f k)) := by
  have h : ∑ k ∈ s, Real.exp (f k) = (∑ k ∈ s, Real.exp (f k - M)) * Real.exp M := by
    rw [Finset.sum_mul]; refine Finset.sum_congr rfl fun k _ => ?_
    rw [← Real.exp_add]; congr 1; ring
  have hp : 0 < ∑ k ∈ s, Real.exp (f k - M) := Finset.sum_pos (fun _ _ => Real.exp_pos _) hs
  rw [h, Real.log_mul hp.ne' (Real.exp_ne_zero _), Real.log_exp]

end Cert.Yolo
end
-- ==== Proof.RefCell.lean ====
/- The reference's stages at one cell of the grid: each is the real quantity that the loss names there. -/
module

public import proofs.«01_k».proof.Proof.Gen.ReferenceIdeal.Read
public import proofs.«01_k».proof.Proof.Cell
public import Idealize.ShloMosaic.Lib.Pipeline.ValueKit

@[expose] public section
set_option maxRecDepth 16384
noncomputable section
namespace Cert.Yolo
open Cert.ReferenceIdeal Cert.ReferenceIdeal.Read Idealize.ShloMosaic Idealize.ShloMosaic.TcCoe Idealize.SL.Sem

/-- The predictions, the targets and the anchors as arrays of extended reals. -/
abbrev Arr0 := (⟨S64x3x52x52x16, .f32⟩ : BufTy).Contents (Elt Ideal)
abbrev Arr1 := (⟨S64x3x52x52x6, .f32⟩ : BufTy).Contents (Elt Ideal)
abbrev Arr2 := (⟨S3x2, .f32⟩ : BufTy).Contents (Elt Ideal)

theorem zero_real : (0 : EReal) = ((0 : ℝ) : EReal) := EReal.coe_zero.symm
theorem one_real : (1 : EReal) = ((1 : ℝ) : EReal) := EReal.coe_one.symm
theorem abs_real (a : ℝ) : FloatOps.absf (F := Ideal) (φ := .f32) (a : EReal) = ((|a| : ℝ) : EReal) := by
  rw [Ideal.absf_def, ← EReal.coe_neg, max_real]; rfl
theorem iota_real (k : Fin 52) : (FloatOps.sitofp (F := Ideal) .f32 (BitVec.ofNat 32 k.val) : EReal) = ((k.val : ℝ) : EReal) := by
  show (((BitVec.ofNat 32 k.val).toInt : ℝ) : EReal) = _
  have h : (BitVec.ofNat 32 k.val).toInt = (k.val : ℤ) := by
    have := k.isLt
    rw [BitVec.toInt_eq_toNat_cond, BitVec.toNat_ofNat, Nat.mod_eq_of_lt (by omega), if_pos (by omega)]
  rw [h]; norm_cast

/-- The softplus as the reference computes it, with a guard that no real meets. -/
theorem softplus_guarded (a : ℝ) :
    ((if (0 : EReal) - (a : EReal) ≠ 0 - (a : EReal) then (a : EReal)
      else max 0 (a : EReal) + Ideal.log1p (Ideal.exp (-FloatOps.absf (F := Ideal) (φ := .f32) (0 - (a : EReal))))) : EReal)
      = ((softplus a : ℝ) : EReal) := by
  rw [if_neg (by simp), zero_real, ← EReal.coe_sub, abs_real, ← EReal.coe_neg, Ideal.exp_coe, log1p_real (by positivity), max_real,
    ← EReal.coe_add, zero_sub, abs_neg, softplus_eq]

/-- One over one plus an exponential. -/
theorem sig_guarded (a : ℝ) : Ideal.div 1 (1 + Ideal.exp (-(a : EReal))) = ((sig a : ℝ) : EReal) := by
  rw [one_real, ← EReal.coe_neg, Ideal.exp_coe, ← EReal.coe_add, div_real (by positivity), one_div]; rfl

variable {x0 : Arr0} {x1 : Arr1} {x2 : Arr2} {A : Fin 3 → Fin 2 → ℝ} {p : Fin 16 → ℝ} {t : Fin 6 → ℝ}
  {n : Fin 64} {b : Fin 3} {y x : Fin 52}

section Targets
variable (h1 : ∀ k, x1 (ix5 n b y x k) = ((t k : ℝ) : EReal)) (ht : ∀ k, IsBit (t k))
include h1

theorem v1_at : val_main_v1 (F := Ideal) x1 (ix4 n b y x) = ((t 0 : ℝ) : EReal) := by
  unfold val_main_v1 val_main_v0; pointwise; exact h1 0
theorem v72_at : val_main_v72 (F := Ideal) x1 (ix4 n b y x) = ((t 1 : ℝ) : EReal) := by
  unfold val_main_v72 val_main_v71; pointwise; exact h1 1
theorem v74_at : val_main_v74 (F := Ideal) x1 (ix4 n b y x) = ((t 2 : ℝ) : EReal) := by
  unfold val_main_v74 val_main_v73; pointwise; exact h1 2
theorem v76_at : val_main_v76 (F := Ideal) x1 (ix4 n b y x) = ((t 3 : ℝ) : EReal) := by
  unfold val_main_v76 val_main_v75; pointwise; exact h1 3
theorem v78_at : val_main_v78 (F := Ideal) x1 (ix4 n b y x) = ((t 4 : ℝ) : EReal) := by
  unfold val_main_v78 val_main_v77; pointwise; exact h1 4
theorem v174_at : val_main_v174 (F := Ideal) x1 (ix4 n b y x) = ((t 5 : ℝ) : EReal) := by
  unfold val_main_v174 val_main_v173; pointwise; exact h1 5

include ht
/-- The mask of the cells that hold an object; -/
theorem v4_at : val_main_v4 (F := Ideal) x1 (ix4 n b y x) = ((if t 0 = 1 then 1 else 0 : ℝ) : EReal) := by
  have h := v1_at h1
  unfold val_main_v4 val_main_v3 val_main_v2 val_main_cst
  pointwise
  rw [h, one_real]
  rcases ht 0 with e | e <;> rw [e]
  · rw [decide_eq_false (by norm_num), if_neg (by norm_num)]; show (((0 : ℕ) : ℝ) : EReal) = _; simp
  · rw [decide_eq_true rfl, if_pos rfl]; show (((1 : ℕ) : ℝ) : EReal) = _; simp
/-- of those that hold none. -/
theorem v7_at : val_main_v7 (F := Ideal) x1 (ix4 n b y x) = ((if t 0 = 1 then 0 else 1 : ℝ) : EReal) := by
  have h := v1_at h1
  unfold val_main_v7 val_main_v6 val_main_v5 val_main_cst_0
  pointwise
  rw [h, zero_real]
  rcases ht 0 with e | e <;> rw [e]
  · rw [decide_eq_true rfl, if_neg (by norm_num)]; show (((1 : ℕ) : ℝ) : EReal) = _; simp
  · rw [decide_eq_false (by norm_num), if_pos rfl]; show (((0 : ℕ) : ℝ) : EReal) = _; simp
/-- The class as an integer. -/
theorem v175_at : val_main_v175 (F := Ideal) x1 (ix4 n b y x) = if t 5 = 1 then 1#32 else 0#32 := by
  have h := v174_at h1
  unfold val_main_v175
  pointwise
  rw [h]
  show Ideal.fptosi 32 _ = _
  rcases ht 5 with e | e <;> rw [e]
  · rw [if_neg (by norm_num)]; simp [Ideal.fptosi, Ideal.toIntClamped_coe, -EReal.coe_zero]
  · rw [if_pos rfl]; simp [Ideal.fptosi, Ideal.toIntClamped_coe, -EReal.coe_one]
omit ht
/-- The target box's edges. -/
theorem v93_at : val_main_v93 (F := Ideal) x1 (ix4 n b y x) = ((t 1 - 1 / 2 * t 3 : ℝ) : EReal) := by
  have h := v72_at h1
  have h' := v76_at h1
  unfold val_main_v93 val_main_v92 val_main_v91 val_main_cst_14
  pointwise
  rw [h, h', w_2, div_real (by norm_num), ← EReal.coe_sub]; congr 1; ring
theorem v96_at : val_main_v96 (F := Ideal) x1 (ix4 n b y x) = ((t 2 - 1 / 2 * t 4 : ℝ) : EReal) := by
  have h := v74_at h1
  have h' := v78_at h1
  unfold val_main_v96 val_main_v95 val_main_v94 val_main_cst_15
  pointwise
  rw [h, h', w_2, div_real (by norm_num), ← EReal.coe_sub]; congr 1; ring
theorem v99_at : val_main_v99 (F := Ideal) x1 (ix4 n b y x) = ((t 1 + 1 / 2 * t 3 : ℝ) : EReal) := by
  have h := v72_at h1
  have h' := v76_at h1
  unfold val_main_v99 val_main_v98 val_main_v97 val_main_cst_16
  pointwise
  rw [h, h', w_2, div_real (by norm_num), ← EReal.coe_add]; congr 1; ring
theorem v102_at : val_main_v102 (F := Ideal) x1 (ix4 n b y x) = ((t 2 + 1 / 2 * t 4 : ℝ) : EReal) := by
  have h := v74_at h1
  have h' := v78_at h1
  unfold val_main_v102 val_main_v101 val_main_v100 val_main_cst_17
  pointwise
  rw [h, h', w_2, div_real (by norm_num), ← EReal.coe_add]; congr 1; ring
theorem v144_at : val_main_v144 (F := Ideal) x1 (ix4 n b y x) = ((t 1 - x.val : ℝ) : EReal) := by
  have h := v72_at h1
  unfold val_main_v144 val_main_v143 val_main_v32 val_main_v31
  pointwise
  rw [h, iota_real, ← EReal.coe_sub]
theorem v146_at : val_main_v146 (F := Ideal) x1 (ix4 n b y x) = ((t 2 - y.val : ℝ) : EReal) := by
  have h := v74_at h1
  unfold val_main_v146 val_main_v145 val_main_v34 val_main_v33
  pointwise
  rw [h, iota_real, ← EReal.coe_sub]
include ht
/-- The area of the target box, with its absolute value. -/
theorem v119_at : val_main_v119 (F := Ideal) x1 (ix4 n b y x) = ((t 3 * t 4 : ℝ) : EReal) := by
  have e1 := v93_at h1
  have e2 := v96_at h1
  have e3 := v99_at h1
  have e4 := v102_at h1
  unfold val_main_v119 val_main_v118 val_main_v117 val_main_v116
  pointwise
  rw [e1, e2, e3, e4, ← EReal.coe_sub, ← EReal.coe_sub, ← EReal.coe_mul]
  refine (abs_real _).trans ?_
  have hn := mul_nonneg (ht 3).nonneg (ht 4).nonneg
  congr 1
  rw [show (t 1 + 1 / 2 * t 3 - (t 1 - 1 / 2 * t 3)) * (t 2 + 1 / 2 * t 4 - (t 2 - 1 / 2 * t 4)) = t 3 * t 4 by ring, abs_of_nonneg hn]
end Targets

section Preds
variable (h0 : ∀ k, x0 (ix5 n b y x k) = ((p k : ℝ) : EReal))
include h0
theorem v11_at : val_main_v11 (F := Ideal) x0 (ix4 n b y x) = ((p 0 : ℝ) : EReal) := by
  unfold val_main_v11 val_main_v10; pointwise; exact h0 0
theorem v36_at : val_main_v36 (F := Ideal) x0 (ix4 n b y x) = ((p 1 : ℝ) : EReal) := by
  unfold val_main_v36 val_main_v35; pointwise; exact h0 1
theorem v44_at : val_main_v44 (F := Ideal) x0 (ix4 n b y x) = ((p 2 : ℝ) : EReal) := by
  unfold val_main_v44 val_main_v43; pointwise; exact h0 2
theorem v52_at : val_main_v52 (F := Ideal) x0 (ix4 n b y x) = ((p 3 : ℝ) : EReal) := by
  unfold val_main_v52 val_main_v51; pointwise; exact h0 3
theorem v54_at : val_main_v54 (F := Ideal) x0 (ix4 n b y x) = ((p 4 : ℝ) : EReal) := by
  unfold val_main_v54 val_main_v53; pointwise; exact h0 4
theorem v172_at (k : Fin 11) : val_main_v172 (F := Ideal) x0 (ix5 n b y x k) = ((p ⟨5 + k.val, by omega⟩ : ℝ) : EReal) := by
  unfold val_main_v172; pointwise; exact h0 _
/-- The two sigmoids. -/
theorem v42_at : val_main_v42 (F := Ideal) x0 (ix4 n b y x) = ((sig (p 1) : ℝ) : EReal) := by
  have h := v36_at h0
  unfold val_main_v42 val_main_v41 val_main_cst_7 val_main_v40 val_main_v39 val_main_cst_6 val_main_v38 val_main_v37
  pointwise
  rw [h, sig_guarded]
theorem v50_at : val_main_v50 (F := Ideal) x0 (ix4 n b y x) = ((sig (p 2) : ℝ) : EReal) := by
  have h := v44_at h0
  unfold val_main_v50 val_main_v49 val_main_cst_9 val_main_v48 val_main_v47 val_main_cst_8 val_main_v46 val_main_v45
  pointwise
  rw [h, sig_guarded]
/-- The cross entropy of a logit against zero, -/
theorem v27_at : val_main_v27 (F := Ideal) x0 (ix4 n b y x) = ((softplus (p 0) : ℝ) : EReal) := by
  have h := v11_at h0
  unfold val_main_v27 val_main_v26 val_main_v25 val_main_cst_4 val_main_v24 val_main_v23 val_main_v22 val_main_v21 val_main_v20
    val_main_v19 val_main_v18 val_main_v17 val_main_v16 val_main_v15 val_main_v14 val_main_v13 val_main_v12 val_main_cst_3
  pointwise
  rw [h, softplus_guarded, mul_zero, sub_zero]
/-- and its part that does not depend on the target. -/
theorem v137_at : val_main_v137 (F := Ideal) x0 (ix4 n b y x) = ((softplus (p 0) : ℝ) : EReal) := by
  have h := v11_at h0
  unfold val_main_v137 val_main_v136 val_main_v135 val_main_v134 val_main_v133
    val_main_v132 val_main_v131 val_main_v130 val_main_v129 val_main_v128 val_main_v127 val_main_v126 val_main_v125 val_main_cst_20
  pointwise
  rw [h, softplus_guarded]
/-- The predicted box's centre. -/
theorem v62_at : val_main_v62 (F := Ideal) x0 (ix4 n b y x) = ((x.val + sig (p 1) : ℝ) : EReal) := by
  have h := v42_at h0
  unfold val_main_v62 val_main_v61 val_main_v32 val_main_v31
  pointwise
  rw [h, iota_real, ← EReal.coe_add]
theorem v64_at : val_main_v64 (F := Ideal) x0 (ix4 n b y x) = ((y.val + sig (p 2) : ℝ) : EReal) := by
  have h := v50_at h0
  unfold val_main_v64 val_main_v63 val_main_v34 val_main_v33
  pointwise
  rw [h, iota_real, ← EReal.coe_add]
end Preds

section Anchors
variable (hA : ∀ r k, x2 (ix2 r k) = ((A r k : ℝ) : EReal))
include hA
theorem v66_at : val_main_v66 (F := Ideal) x2 (ix4 n b y x) = ((A b 0 : ℝ) : EReal) := by
  unfold val_main_v66 val_main_v57 val_main_v56 val_main_v55
  pointwise
  exact hA b 0
theorem v69_at : val_main_v69 (F := Ideal) x2 (ix4 n b y x) = ((A b 1 : ℝ) : EReal) := by
  unfold val_main_v69 val_main_v60 val_main_v59 val_main_v58
  pointwise
  exact hA b 1
theorem v147_at : val_main_v147 (F := Ideal) x2 (ix4 n b y x) = ((A b 0 : ℝ) : EReal) := by
  unfold val_main_v147 val_main_v57 val_main_v56 val_main_v55
  pointwise
  exact hA b 0
theorem v152_at : val_main_v152 (F := Ideal) x2 (ix4 n b y x) = ((A b 1 : ℝ) : EReal) := by
  unfold val_main_v152 val_main_v60 val_main_v59 val_main_v58
  pointwise
  exact hA b 1
end Anchors

section Boxes
variable (h0 : ∀ k, x0 (ix5 n b y x k) = ((p k : ℝ) : EReal)) (h1 : ∀ k, x1 (ix5 n b y x k) = ((t k : ℝ) : EReal))
  (hA : ∀ r k, x2 (ix2 r k) = ((A r k : ℝ) : EReal)) (ht : ∀ k, IsBit (t k)) (hpos : ∀ r k, 0 < A r k)
include h0 hA
/-- The predicted box's sides. -/
theorem v67_at : val_main_v67 (F := Ideal) x0 x2 (ix4 n b y x) = ((A b 0 * Real.exp (p 3) : ℝ) : EReal) := by
  have h := v52_at h0
  have h' := v66_at (n := n) (b := b) (y := y) (x := x) hA
  unfold val_main_v67 val_main_v65
  pointwise
  rw [h, h', Ideal.exp_coe, ← EReal.coe_mul]
theorem v70_at : val_main_v70 (F := Ideal) x0 x2 (ix4 n b y x) = ((A b 1 * Real.exp (p 4) : ℝ) : EReal) := by
  have h := v54_at h0
  have h' := v69_at (n := n) (b := b) (y := y) (x := x) hA
  unfold val_main_v70 val_main_v68
  pointwise
  rw [h, h', Ideal.exp_coe, ← EReal.coe_mul]
/-- The predicted box's edges. -/
theorem v81_at : val_main_v81 (F := Ideal) x0 x2 (ix4 n b y x) = ((x.val + sig (p 1) - 1 / 2 * (A b 0 * Real.exp (p 3)) : ℝ) : EReal) := by
  have h := v62_at h0
  have h' := v67_at h0 hA
  unfold val_main_v81 val_main_v80 val_main_v79 val_main_cst_10
  pointwise
  rw [h, h', w_2, div_real (by norm_num), ← EReal.coe_sub]; congr 1; ring
theorem v84_at : val_main_v84 (F := Ideal) x0 x2 (ix4 n b y x) = ((y.val + sig (p 2) - 1 / 2 * (A b 1 * Real.exp (p 4)) : ℝ) : EReal) := by
  have h := v64_at h0
  have h' := v70_at h0 hA
  unfold val_main_v84 val_main_v83 val_main_v82 val_main_cst_11
  pointwise
  rw [h, h', w_2, div_real (by norm_num), ← EReal.coe_sub]; congr 1; ring
theorem v87_at : val_main_v87 (F := Ideal) x0 x2 (ix4 n b y x) = ((x.val + sig (p 1) + 1 / 2 * (A b 0 * Real.exp (p 3)) : ℝ) : EReal) := by
  have h := v62_at h0
  have h' := v67_at h0 hA
  unfold val_main_v87 val_main_v86 val_main_v85 val_main_cst_12
  pointwise
  rw [h, h', w_2, div_real (by norm_num), ← EReal.coe_add]; congr 1; ring
theorem v90_at : val_main_v90 (F := Ideal) x0 x2 (ix4 n b y x) = ((y.val + sig (p 2) + 1 / 2 * (A b 1 * Real.exp (p 4)) : ℝ) : EReal) := by
  have h := v64_at h0
  have h' := v70_at h0 hA
  unfold val_main_v90 val_main_v89 val_main_v88 val_main_cst_13
  pointwise
  rw [h, h', w_2, div_real (by norm_num), ← EReal.coe_add]; congr 1; ring
include hpos in
/-- The area of the predicted box, with its absolute value. -/
theorem v115_at : val_main_v115 (F := Ideal) x0 x2 (ix4 n b y x) = ((A b 0 * Real.exp (p 3) * (A b 1 * Real.exp (p 4)) : ℝ) : EReal) := by
  have e1 := v81_at h0 hA
  have e2 := v84_at h0 hA
  have e3 := v87_at h0 hA
  have e4 := v90_at h0 hA
  unfold val_main_v115 val_main_v114 val_main_v113 val_main_v112
  pointwise
  rw [e1, e2, e3, e4, ← EReal.coe_sub, ← EReal.coe_sub, ← EReal.coe_mul]
  refine (abs_real _).trans ?_
  have hw : 0 < A b 0 * Real.exp (p 3) := mul_pos (hpos b 0) (Real.exp_pos _)
  have hh : 0 < A b 1 * Real.exp (p 4) := mul_pos (hpos b 1) (Real.exp_pos _)
  congr 1
  generalize A b 0 * Real.exp (p 3) = w at *
  generalize A b 1 * Real.exp (p 4) = h at *
  rw [show (x.val + sig (p 1) + 1 / 2 * w - (x.val + sig (p 1) - 1 / 2 * w)) * (y.val + sig (p 2) + 1 / 2 * h - (y.val + sig (p 2) - 1 / 2 * h))
    = w * h by ring, abs_of_pos (mul_pos hw hh)]
include h1
/-- The intersection. -/
theorem v111_at : val_main_v111 (F := Ideal) x0 x1 x2 (ix4 n b y x) = ((inter p t (A b 0) (A b 1) x.val y.val : ℝ) : EReal) := by
  have e1 := v81_at h0 hA
  have e2 := v84_at h0 hA
  have e3 := v87_at h0 hA
  have e4 := v90_at h0 hA
  have f1 := v93_at h1
  have f2 := v96_at h1
  have f3 := v99_at h1
  have f4 := v102_at h1
  have hz : (FloatOps.sitofp (F := Ideal) .f32 (0#32) : EReal) = ((0 : ℝ) : EReal) := by
    show (((0#32 : BitVec 32).toInt : ℝ) : EReal) = _; simp
  unfold val_main_v111 val_main_v110 val_main_v109 val_main_v108 val_main_v107 val_main_v106 val_main_v105 val_main_v104 val_main_v103
    val_main_call0_v1 val_main_call0_v0 val_main_c val_main_call1_v1 val_main_call1_v0 val_main_c_18
  pointwise
  rw [e1, e2, e3, e4, f1, f2, f3, f4, hz, max_real, max_real, min_real, min_real, ← EReal.coe_sub, ← EReal.coe_sub, max_real, max_real,
    ← EReal.coe_mul]
  rfl
include ht hpos
/-- The intersection over union. -/
theorem v124_at : val_main_v124 (F := Ideal) x0 x1 x2 (ix4 n b y x)
    = ((inter p t (A b 0) (A b 1) x.val y.val / unionArea p t (A b 0) (A b 1) x.val y.val : ℝ) : EReal) := by
  have e := v111_at h0 h1 hA
  have e1 := v115_at h0 hA hpos
  have e2 := v119_at h1 ht
  have hu := unionArea_pos (p := p) (gx := x.val) (gy := y.val) (hpos b 0) (hpos b 1) (ht 3).nonneg (ht 4).nonneg
  unfold val_main_v124 val_main_v123 val_main_v122 val_main_v121 val_main_v120 val_main_cst_19
  pointwise
  rw [e, e1, e2, w_eps6, ← EReal.coe_add, ← EReal.coe_sub, ← EReal.coe_add]
  exact div_real hu.ne'
/-- The objectness loss of a cell that holds an object. -/
theorem v139_at : val_main_v139 (F := Ideal) x0 x1 x2 (ix4 n b y x) = ((objTerm p t (A b 0) (A b 1) x.val y.val : ℝ) : EReal) := by
  have e := v124_at h0 h1 hA ht hpos
  have e1 := v137_at h0
  have e2 := v11_at h0
  unfold val_main_v139 val_main_v138
  pointwise
  rw [e, e1, e2, ← EReal.coe_mul, ← EReal.coe_sub]; rfl
/-- The squared coordinate errors. -/
theorem v167_at : val_main_v167 (F := Ideal) x0 x1 x2 (ix4 n b y x) = ((boxTerm p t (A b 0) (A b 1) x.val y.val : ℝ) : EReal) := by
  have e1 := v42_at h0
  have e2 := v50_at h0
  have e3 := v52_at h0
  have e4 := v54_at h0
  have f1 := v144_at h1
  have f2 := v146_at h1
  have f3 := v76_at h1
  have f4 := v78_at h1
  have g1 := v147_at (n := n) (b := b) (y := y) (x := x) hA
  have g2 := v152_at (n := n) (b := b) (y := y) (x := x) hA
  unfold val_main_v167 val_main_v166 val_main_v165 val_main_v164 val_main_v163 val_main_v162 val_main_v161 val_main_v160 val_main_v159
    val_main_v158 val_main_v157 val_main_v156 val_main_v155 val_main_v154 val_main_v153 val_main_v151 val_main_v150 val_main_v149
    val_main_v148 val_main_cst_22 val_main_cst_23
  pointwise
  rw [e1, e2, e3, e4, f1, f2, f3, f4, g1, g2, w_eps16, div_real (hpos b 0).ne', div_real (hpos b 1).ne', ← EReal.coe_add, ← EReal.coe_add,
    log_real (ratio_pos (ht 3).nonneg (hpos b 0)), log_real (ratio_pos (ht 4).nonneg (hpos b 1))]
  simp only [← EReal.coe_sub, ← EReal.coe_mul, ← EReal.coe_add]
  rfl
end Boxes
end Cert.Yolo
end
-- ==== Proof.RefClass.lean ====
/- The reference's class loss at one cell: the log-sum-exp of the eleven logits, shifted by their maximum, less the logit
   that the target class picks. -/
module

public import proofs.«01_k».proof.Proof.RefCell
public import Idealize.ShloMosaic.Lib.ReduceAll

@[expose] public section
set_option maxRecDepth 16384
noncomputable section
namespace Cert.Yolo
open Cert.ReferenceIdeal Cert.ReferenceIdeal.Read Idealize.ShloMosaic Idealize.ShloMosaic.TcCoe Idealize.SL.Sem

/-- The running maximum of finitely many reals from `⊥` is `⊥` or a real, and a real once one of them went in. -/
theorem fold_max_real {ι : Type} [DecidableEq ι] (s : Finset ι) (f : ι → ℝ) (hs : s.Nonempty) :
    ∃ M : ℝ, Finset.fold max (⊥ : EReal) (fun k => ((f k : ℝ) : EReal)) s = (M : EReal) := by
  induction hs using Finset.Nonempty.cons_induction with
  | singleton a => exact ⟨f a, by simp⟩
  | cons a s ha hs ih =>
    obtain ⟨M, hM⟩ := ih
    exact ⟨max (f a) M, by rw [Finset.fold_cons, hM, max_real]⟩

/-- The two places a class index reads among eleven: the clamped signed value of the words 0 and 1. -/
theorem clamp_bit (a : ℝ) : min (if a = 1 then 1#32 else 0#32 : BitVec 32).toInt.toNat (11 - 1) = if a = 1 then 1 else 0 := by
  split_ifs <;> decide

variable {x0 : Arr0} {x1 : Arr1} {p : Fin 16 → ℝ} {t : Fin 6 → ℝ} {n : Fin 64} {b : Fin 3} {y x : Fin 52}
  (h0 : ∀ k, x0 (ix5 n b y x k) = ((p k : ℝ) : EReal)) (h1 : ∀ k, x1 (ix5 n b y x k) = ((t k : ℝ) : EReal)) (ht : ∀ k, IsBit (t k))

include h0 in
/-- The maximum of the eleven logits is a real number. -/
theorem v176_at : ∃ M : ℝ, val_main_v176 (F := Ideal) x0 (ix4 n b y x) = (M : EReal) := by
  have h := v172_at h0
  unfold val_main_v176 val_main_cst_26
  pointwise
  simp only [h, w_bot]
  exact fold_max_real _ _ ⟨0, Finset.mem_univ _⟩

include h0 in
/-- The shifted log-sum-exp is the logarithm of the sum of the exponentials. -/
theorem v184_at : val_main_v184 (F := Ideal) x0 (ix4 n b y x) = ((Real.log (expSum p) : ℝ) : EReal) := by
  have h := v172_at h0
  obtain ⟨M, hM⟩ := v176_at h0
  unfold val_main_v184 val_main_v183 val_main_v182 val_main_v181 val_main_cst_27 val_main_v180 val_main_v179 val_main_v178 val_main_v177
  pointwise
  simp only [h, hM, ← EReal.coe_sub, Ideal.exp_coe, sum_real]
  rw [log_real (Finset.sum_pos (fun _ _ => Real.exp_pos _) ⟨0, Finset.mem_univ _⟩), ← EReal.coe_add,
    shifted_lse _ ⟨0, Finset.mem_univ _⟩]
  have e : (∑ k : Fin 11, Real.exp (p ⟨5 + k.val, by omega⟩)) = expSum p := by
    simp only [Fin.sum_univ_castSucc, Fin.sum_univ_zero, zero_add]
    rfl
  exact congrArg (fun a => ((Real.log a : ℝ) : EReal)) e

include h1 ht in
/-- The class index the gather reads at. -/
theorem call2_v5_at : val_main_call2_v5 (F := Ideal) x1 (ix6 n b y x 0 0) = if t 5 = 1 then 1#32 else 0#32 := by
  have h := v175_at h1 ht
  unfold val_main_call2_v5 val_main_call2_v4 val_main_call2_v3 val_main_call2_v2 val_main_call2_v1 val_main_call2_v0 val_main_v185
    val_main_call2_c val_main_call2_c_0
  pointwise
  rw [h]
  split_ifs <;> rfl

include h1 ht in
/-- The class index is in range. -/
theorem call2_v11_at : val_main_call2_v11 (F := Ideal) x1 (ix6 n b y x 0 0) = 1#1 := by
  have h := call2_v5_at h1 ht
  unfold val_main_call2_v11 val_main_call2_v10 val_main_call2_v9 val_main_call2_v8 val_main_call2_v7
    val_main_call2_v6 val_main_call2_c_2 val_main_call2_c_1
  pointwise
  rw [h]
  split_ifs <;> rfl

include h0 h1 ht in
/-- The gathered logit: the first or the second class, as the target says. -/
theorem call2_v13_at : val_main_call2_v13 (F := Ideal) x0 x1 (ix5 n b y x 0) = ((p 5 + t 5 * (p 6 - p 5) : ℝ) : EReal) := by
  have h := call2_v5_at h1 ht
  unfold val_main_call2_v13
  unfold Host.gather
  have e : gather_S64x3x52x52x11_S64x3x52x52x1x1_S64x3x52x52x1_n_4_0123_0123_4_5_11111.operandIdx (ix5 n b y x 0)
      (val_main_call2_v5 (F := Ideal) x1) = ix5 n b y x (if t 5 = 1 then 1 else 0) := by
    funext a
    apply Fin.ext
    match a with
    | ⟨0, _⟩ => show 0 + n.val + 0 = n.val; omega
    | ⟨1, _⟩ => show 0 + b.val + 0 = b.val; omega
    | ⟨2, _⟩ => show 0 + y.val + 0 = y.val; omega
    | ⟨3, _⟩ => show 0 + x.val + 0 = x.val; omega
    | ⟨4, _⟩ =>
      have e' : gather_S64x3x52x52x11_S64x3x52x52x1x1_S64x3x52x52x1_n_4_0123_0123_4_5_11111.siIdx (ix5 n b y x 0) ⟨0, by decide⟩
          = ix6 n b y x 0 0 := by
        funext a
        match a with
        | ⟨0, _⟩ => rfl
        | ⟨1, _⟩ => rfl
        | ⟨2, _⟩ => rfl
        | ⟨3, _⟩ => rfl
        | ⟨4, _⟩ => rfl
        | ⟨5, _⟩ => rfl
      show min (val_main_call2_v5 (F := Ideal) x1 (gather_S64x3x52x52x11_S64x3x52x52x1x1_S64x3x52x52x1_n_4_0123_0123_4_5_11111.siIdx (ix5 n b y x 0) ⟨0, by decide⟩)).toInt.toNat (11 - 1)
        = (if t 5 = 1 then (1 : Fin 11) else 0).val
      rw [e', h, clamp_bit]
      split_ifs <;> rfl
  show val_main_v172 (F := Ideal) x0 _ = _
  rw [e, v172_at h0]
  rcases ht 5 with h5 | h5
  · rw [h5, if_neg (by norm_num), zero_mul, add_zero]; rfl
  · rw [h5, if_pos rfl, one_mul, add_sub_cancel]; rfl

end Cert.Yolo

namespace Cert.Yolo
open Cert.ReferenceIdeal Cert.ReferenceIdeal.Read Idealize.ShloMosaic Idealize.ShloMosaic.TcCoe Idealize.SL.Sem

variable {x0 : Arr0} {x1 : Arr1} {P : Fin 64 → Fin 3 → Fin 52 → Fin 52 → Fin 16 → ℝ} {T : Fin 64 → Fin 3 → Fin 52 → Fin 52 → Fin 6 → ℝ}
  (h0 : ∀ n b y x k, x0 (ix5 n b y x k) = ((P n b y x k : ℝ) : EReal)) (h1 : ∀ n b y x k, x1 (ix5 n b y x k) = ((T n b y x k : ℝ) : EReal))
  (ht : ∀ n b y x k, IsBit (T n b y x k))

include h1 ht in
/-- Every class index is in range, so the gather's guard always passes. -/
theorem call2_v12_at (i : S64x3x52x52x1.Idx) : val_main_call2_v12 (F := Ideal) x1 i = 1#1 := by
  unfold val_main_call2_v12
  refine Host.reduce_andi_one _ _ _ _ _ rfl fun j => ?_
  have ej := eq_ix6 j
  have e4 : j 4 = (0 : Fin 1) := Subsingleton.elim (α := Fin 1) _ _
  have e5 : j 5 = (0 : Fin 1) := Subsingleton.elim (α := Fin 1) _ _
  rw [ej, e4, e5]
  exact call2_v11_at (h1 _ _ _ _) (ht _ _ _ _)

include h0 h1 ht in
/-- The reference's class loss at a cell is `clsTerm`. -/
theorem v188_at (n : Fin 64) (b : Fin 3) (y x : Fin 52) :
    val_main_v188 (F := Ideal) x0 x1 (ix4 n b y x) = ((clsTerm (P n b y x) (T n b y x) : ℝ) : EReal) := by
  have e1 := v184_at (h0 n b y x)
  have e2 := call2_v12_at h1 ht (ix5 n b y x 0)
  have e3 := call2_v13_at (h0 n b y x) (h1 n b y x) (ht n b y x)
  unfold val_main_v188 val_main_v187 val_main_v186
  pointwise
  rw [e1, e2, e3]
  show ((_ : ℝ) : EReal) - ((_ : ℝ) : EReal) = _
  rw [← EReal.coe_sub]
  rfl
end Cert.Yolo
end
-- ==== Proof.KernelCell.lean ====
/- What the kernel's body adds to its three accumulator planes at one cell, when the cell's predictions and targets
   are real numbers: the terms of Cell.lean. The body's vectors are read at one index of a block, 4 batches by 3
   anchors by 52 by 52. -/
module

public import proofs.«01_k».proof.Proof.Gen.KernelIdeal.Skeleton
public import proofs.«01_k».proof.Proof.Cell
public import Idealize.ShloMosaic.Lib.Pipeline.ValueKit

@[expose] public section
set_option maxRecDepth 16384
noncomputable section
namespace Cert.Yolo
open Cert.KernelIdeal Cert.KernelIdeal.Gen Idealize.ShloMosaic Idealize.ShloMosaic.TcCoe Idealize.SL.Sem

/-- A vector of the block's shape. -/
abbrev V4 := FVec Ideal S4x3x52x52 FTy.f32
/-- A block of one plane, as a load gives it. -/
abbrev V5 := Vec Ideal S1x4x3x52x52 EltTy.f32

/-- What an object cell adds to the first accumulator plane: five halves of the box error, the objectness loss and
    the class loss; another cell adds nothing. -/
def termA (p : Fin 16 → ℝ) (t : Fin 6 → ℝ) (aw ah gx gy : ℝ) : ℝ :=
  if t 0 = 1 then 5 / 2 * boxTerm p t aw ah gx gy + objTerm p t aw ah gx gy + clsTerm p t else 0
/-- What a cell without an object adds to the second plane: the softplus of its objectness logit. -/
def termB (p : Fin 16 → ℝ) (t : Fin 6 → ℝ) : ℝ := if t 0 = 1 then 0 else softplus (p 0)
/-- What a cell adds to the third plane, the count of objects. -/
def termO (t : Fin 6 → ℝ) : ℝ := if t 0 = 1 then 1 else 0

variable {i : S4x3x52x52.Idx} {p : Fin 16 → ℝ} {t : Fin 6 → ℝ} {aw ah gx gy : ℝ}

section Unpack
variable {v33 v34 : V4} (ht : ∀ k, IsBit (t k)) (h33 : v33 i = ((packed t : ℝ) : EReal)) (h34 : v34 i = ((1 / 32 : ℝ) : EReal))
include ht h33 h34

/-- The target class, unpacked; -/
theorem pay11_at : k0_pay11 v33 v34 i = ((t 5 : ℝ) : EReal) := by
  unfold k0_pay11; pointwise
  rw [h33, h34, ← EReal.coe_mul, Ideal.liftRound_coe, unpack5 ht]
theorem pay12_at : k0_pay12 v33 v34 i = ((packed t - 32 * t 5 : ℝ) : EReal) := by
  have h := pay11_at ht h33 h34
  unfold k0_pay12
  show (v33 i - Ideal.ofBits .f32 0x42000000#32 * k0_pay11 v33 v34 i : EReal) = _
  rw [h33, h, w_32, ← EReal.coe_mul, ← EReal.coe_sub]
/-- the target height; -/
theorem pay13_at : k0_pay13 v33 v34 i = ((t 4 : ℝ) : EReal) := by
  have h := pay12_at ht h33 h34
  unfold k0_pay13
  show Ideal.liftRound Int.floor (k0_pay12 v33 v34 i * Ideal.ofBits .f32 0x3D800000#32 : EReal) = _
  rw [h, w_16th, ← EReal.coe_mul, Ideal.liftRound_coe, unpack4 ht]
theorem pay14_at : k0_pay14 v33 v34 i = ((packed t - 32 * t 5 - 16 * t 4 : ℝ) : EReal) := by
  have h := pay12_at ht h33 h34
  have h' := pay13_at ht h33 h34
  unfold k0_pay14
  show (k0_pay12 v33 v34 i - Ideal.ofBits .f32 0x41800000#32 * k0_pay13 v33 v34 i : EReal) = _
  rw [h, h', w_16, ← EReal.coe_mul, ← EReal.coe_sub]
/-- the target width; -/
theorem pay15_at : k0_pay15 v33 v34 i = ((t 3 : ℝ) : EReal) := by
  have h := pay14_at ht h33 h34
  unfold k0_pay15
  show Ideal.liftRound Int.floor (k0_pay14 v33 v34 i * Ideal.ofBits .f32 0x3E000000#32 : EReal) = _
  rw [h, w_eighth, ← EReal.coe_mul, Ideal.liftRound_coe, unpack3 ht]
theorem pay16_at : k0_pay16 v33 v34 i = ((packed t - 32 * t 5 - 16 * t 4 - 8 * t 3 : ℝ) : EReal) := by
  have h := pay14_at ht h33 h34
  have h' := pay15_at ht h33 h34
  unfold k0_pay16
  show (k0_pay14 v33 v34 i - Ideal.ofBits .f32 0x41000000#32 * k0_pay15 v33 v34 i : EReal) = _
  rw [h, h', w_8, ← EReal.coe_mul, ← EReal.coe_sub]
/-- the target row; -/
theorem pay17_at : k0_pay17 v33 v34 i = ((t 2 : ℝ) : EReal) := by
  have h := pay16_at ht h33 h34
  unfold k0_pay17
  show Ideal.liftRound Int.floor (k0_pay16 v33 v34 i * Ideal.ofBits .f32 0x3E800000#32 : EReal) = _
  rw [h, w_quarter, ← EReal.coe_mul, Ideal.liftRound_coe, unpack2 ht]
theorem pay18_at : k0_pay18 v33 v34 i = ((packed t - 32 * t 5 - 16 * t 4 - 8 * t 3 - 4 * t 2 : ℝ) : EReal) := by
  have h := pay16_at ht h33 h34
  have h' := pay17_at ht h33 h34
  unfold k0_pay18
  show (k0_pay16 v33 v34 i - Ideal.ofBits .f32 0x40800000#32 * k0_pay17 v33 v34 i : EReal) = _
  rw [h, h', w_4, ← EReal.coe_mul, ← EReal.coe_sub]
/-- the target column; -/
theorem pay19_at : k0_pay19 v33 v34 i = ((t 1 : ℝ) : EReal) := by
  have h := pay18_at ht h33 h34
  unfold k0_pay19
  show Ideal.liftRound Int.floor (k0_pay18 v33 v34 i * Ideal.ofBits .f32 0x3F000000#32 : EReal) = _
  rw [h, w_half, ← EReal.coe_mul, Ideal.liftRound_coe, unpack1 ht]
/-- the object bit. -/
theorem pay20_at : k0_pay20 v33 v34 i = ((t 0 : ℝ) : EReal) := by
  have h := pay18_at ht h33 h34
  have h' := pay19_at ht h33 h34
  unfold k0_pay20
  show (k0_pay18 v33 v34 i - Ideal.ofBits .f32 0x40000000#32 * k0_pay19 v33 v34 i : EReal) = _
  rw [h, h', w_2, ← EReal.coe_mul, ← EReal.coe_sub, unpack0]
end Unpack

theorem pay10_at : (k0_pay10 : V4) i = ((1 / 32 : ℝ) : EReal) := by
  unfold k0_pay10; pointwise; exact w_32nd

/-- The object mask is the bit "the object target is 1". -/
theorem pay26_at {v63 : V4} (h : v63 i = ((t 0 : ℝ) : EReal)) : k0_pay26 v63 i = if t 0 = 1 then 1#1 else 0#1 := by
  unfold k0_pay26; pointwise
  rw [h, ← EReal.coe_one]
  by_cases h1 : t 0 = 1
  · simp [h1]
  · simp [h1]

theorem pay27_at {v65 : V4} {a : ℝ} (h : v65 i = (a : EReal)) : k0_pay27 v65 i = ((softplus a : ℝ) : EReal) := by
  unfold k0_pay27; pointwise
  rw [h, Ideal.exp_coe, log1p_real (by positivity)]; rfl
theorem pay28_at {v67 : V4} {a : ℝ} (h : v67 i = (a : EReal)) : k0_pay28 v67 i = ((sig a : ℝ) : EReal) := by
  unfold k0_pay28; pointwise
  rw [h, Ideal.logistic_coe]; rfl
theorem pay29_at {v69 : V4} {a : ℝ} (h : v69 i = (a : EReal)) : k0_pay29 v69 i = ((sig a : ℝ) : EReal) := by
  unfold k0_pay29; pointwise
  rw [h, Ideal.logistic_coe]; rfl
theorem pay30_at {v6 v67 : V4} {a g : ℝ} (h6 : v6 i = (g : EReal)) (h : v67 i = (a : EReal)) :
    k0_pay30 v6 v67 i = ((g + sig a : ℝ) : EReal) := by
  have h' := pay28_at h
  unfold k0_pay30
  show (v6 i + k0_pay28 v67 i : EReal) = _
  rw [h6, h', EReal.coe_add]
theorem pay31_at {v4 v69 : V4} {a g : ℝ} (h6 : v4 i = (g : EReal)) (h : v69 i = (a : EReal)) :
    k0_pay31 v4 v69 i = ((g + sig a : ℝ) : EReal) := by
  have h' := pay29_at h
  unfold k0_pay31
  show (v4 i + k0_pay29 v69 i : EReal) = _
  rw [h6, h', EReal.coe_add]
theorem pay32_at {v19 : V4} {q : V5} {a b : ℝ} (h6 : v19 i = (a : EReal)) (h : k0_pay24 q i = (b : EReal)) :
    k0_pay32 v19 q i = ((a * Real.exp b : ℝ) : EReal) := by
  unfold k0_pay32
  show (v19 i * Ideal.exp (k0_pay24 q i) : EReal) = _
  rw [h6, h, Ideal.exp_coe, EReal.coe_mul]
theorem pay33_at {v31 : V4} {q : V5} {a b : ℝ} (h6 : v31 i = (a : EReal)) (h : k0_pay25 q i = (b : EReal)) :
    k0_pay33 v31 q i = ((a * Real.exp b : ℝ) : EReal) := by
  unfold k0_pay33
  show (v31 i * Ideal.exp (k0_pay25 q i) : EReal) = _
  rw [h6, h, Ideal.exp_coe, EReal.coe_mul]
theorem pay34_at {v4 v31 v69 : V4} {q : V5} {g s a b : ℝ} (h4 : v4 i = (g : EReal)) (h31 : v31 i = (a : EReal))
    (h69 : v69 i = (s : EReal)) (h : k0_pay25 q i = (b : EReal)) :
    k0_pay34 v4 v31 v69 q i = ((g + sig s - 1 / 2 * (a * Real.exp b) : ℝ) : EReal) := by
  have h1 := pay31_at h4 h69
  have h2 := pay33_at h31 h
  unfold k0_pay34
  show (k0_pay31 v4 v69 i - Ideal.ofBits .f32 0x3F000000#32 * k0_pay33 v31 q i : EReal) = _
  rw [h1, h2, w_half, ← EReal.coe_mul, ← EReal.coe_sub]
theorem pay35_at {v4 v31 v69 : V4} {q : V5} {g s a b : ℝ} (h4 : v4 i = (g : EReal)) (h31 : v31 i = (a : EReal))
    (h69 : v69 i = (s : EReal)) (h : k0_pay25 q i = (b : EReal)) :
    k0_pay35 v4 v31 v69 q i = ((g + sig s + 1 / 2 * (a * Real.exp b) : ℝ) : EReal) := by
  have h1 := pay31_at h4 h69
  have h2 := pay33_at h31 h
  unfold k0_pay35
  show (k0_pay31 v4 v69 i + Ideal.ofBits .f32 0x3F000000#32 * k0_pay33 v31 q i : EReal) = _
  rw [h1, h2, w_half, ← EReal.coe_mul, ← EReal.coe_add]
theorem pay36_at {v42 v54 : V4} {a b : ℝ} (h42 : v42 i = (a : EReal)) (h54 : v54 i = (b : EReal)) :
    k0_pay36 v42 v54 i = ((b - 1 / 2 * a : ℝ) : EReal) := by
  unfold k0_pay36; pointwise
  rw [h42, h54, w_half, ← EReal.coe_mul, ← EReal.coe_sub]
theorem pay37_at {v42 v54 : V4} {a b : ℝ} (h42 : v42 i = (a : EReal)) (h54 : v54 i = (b : EReal)) :
    k0_pay37 v42 v54 i = ((b + 1 / 2 * a : ℝ) : EReal) := by
  unfold k0_pay37; pointwise
  rw [h42, h54, w_half, ← EReal.coe_mul, ← EReal.coe_add]
theorem pay38_at {v6 v19 v48 v60 v67 : V4} {q : V5} {g s a b tw tx : ℝ} (h6 : v6 i = (g : EReal)) (h19 : v19 i = (a : EReal))
    (h48 : v48 i = (tw : EReal)) (h60 : v60 i = (tx : EReal)) (h67 : v67 i = (s : EReal)) (h : k0_pay24 q i = (b : EReal)) :
    k0_pay38 v6 v19 v48 v60 v67 q i = ((min (g + sig s + 1 / 2 * (a * Real.exp b)) (tx + 1 / 2 * tw) : ℝ) : EReal) := by
  have h1 := pay30_at h6 h67
  have h2 := pay32_at h19 h
  unfold k0_pay38
  show min (k0_pay30 v6 v67 i + Ideal.ofBits .f32 0x3F000000#32 * k0_pay32 v19 q i : EReal)
    (v60 i + Ideal.ofBits .f32 0x3F000000#32 * v48 i) = _
  rw [h1, h2, h48, h60, w_half, ← EReal.coe_mul, ← EReal.coe_mul, ← EReal.coe_add, ← EReal.coe_add, min_real]
theorem pay39_at {v6 v19 v48 v60 v67 : V4} {q : V5} {g s a b tw tx : ℝ} (h6 : v6 i = (g : EReal)) (h19 : v19 i = (a : EReal))
    (h48 : v48 i = (tw : EReal)) (h60 : v60 i = (tx : EReal)) (h67 : v67 i = (s : EReal)) (h : k0_pay24 q i = (b : EReal)) :
    k0_pay39 v6 v19 v48 v60 v67 q i = ((max (g + sig s - 1 / 2 * (a * Real.exp b)) (tx - 1 / 2 * tw) : ℝ) : EReal) := by
  have h1 := pay30_at h6 h67
  have h2 := pay32_at h19 h
  unfold k0_pay39
  show max (k0_pay30 v6 v67 i - Ideal.ofBits .f32 0x3F000000#32 * k0_pay32 v19 q i : EReal)
    (v60 i - Ideal.ofBits .f32 0x3F000000#32 * v48 i) = _
  rw [h1, h2, h48, h60, w_half, ← EReal.coe_mul, ← EReal.coe_mul, ← EReal.coe_sub, ← EReal.coe_sub, max_real]

/-- The objectness loss. -/
theorem pay40_at {v42 v48 v65 v77 v83 v85 v94 v97 v106 v109 v110 v111 : V4}
    (haw : 0 < aw) (hah : 0 < ah) (ht : ∀ k, IsBit (t k))
    (h42 : v42 i = ((t 4 : ℝ) : EReal)) (h48 : v48 i = ((t 3 : ℝ) : EReal)) (h65 : v65 i = ((p 0 : ℝ) : EReal))
    (h77 : v77 i = ((softplus (p 0) : ℝ) : EReal)) (h83 : v83 i = ((aw * Real.exp (p 3) : ℝ) : EReal))
    (h85 : v85 i = ((ah * Real.exp (p 4) : ℝ) : EReal))
    (h94 : v94 i = ((gy + sig (p 2) - 1 / 2 * (ah * Real.exp (p 4)) : ℝ) : EReal))
    (h97 : v97 i = ((gy + sig (p 2) + 1 / 2 * (ah * Real.exp (p 4)) : ℝ) : EReal))
    (h106 : v106 i = ((t 2 - 1 / 2 * t 4 : ℝ) : EReal)) (h109 : v109 i = ((t 2 + 1 / 2 * t 4 : ℝ) : EReal))
    (h110 : v110 i = ((min (gx + sig (p 1) + 1 / 2 * (aw * Real.exp (p 3))) (t 1 + 1 / 2 * t 3) : ℝ) : EReal))
    (h111 : v111 i = ((max (gx + sig (p 1) - 1 / 2 * (aw * Real.exp (p 3))) (t 1 - 1 / 2 * t 3) : ℝ) : EReal)) :
    k0_pay40 v42 v48 v65 v77 v83 v85 v94 v97 v106 v109 v110 v111 i = ((objTerm p t aw ah gx gy : ℝ) : EReal) := by
  have hu := unionArea_pos (p := p) (gx := gx) (gy := gy) haw hah (ht 3).nonneg (ht 4).nonneg
  unfold k0_pay40
  show (v77 i - v65 i * Ideal.div
      (max (Ideal.ofBits .f32 0x00000000#32) (v110 i - v111 i) * max (Ideal.ofBits .f32 0x00000000#32) (min (v97 i) (v109 i) - max (v94 i) (v106 i)))
      (v83 i * v85 i + v48 i * v42 i - (max (Ideal.ofBits .f32 0x00000000#32) (v110 i - v111 i) * max (Ideal.ofBits .f32 0x00000000#32) (min (v97 i) (v109 i) - max (v94 i) (v106 i)))
        + Ideal.ofBits .f32 0x358637BD#32) : EReal) = _
  rw [h42, h48, h65, h77, h83, h85, h94, h97, h106, h109, h110, h111, w_0, w_eps6]
  simp only [min_real, max_real, ← EReal.coe_mul, ← EReal.coe_sub, ← EReal.coe_add]
  unfold objTerm
  have e := div_real (a := inter p t aw ah gx gy) hu.ne'
  unfold unionArea inter overlap at e ⊢
  rw [e, ← EReal.coe_mul, ← EReal.coe_sub]

/-- The squared coordinate errors. -/
theorem pay41_at {v4 v6 v19 v31 v42 v48 v54 v60 v71 v73 v78 v79 : V4}
    (haw : 0 < aw) (hah : 0 < ah) (ht : ∀ k, IsBit (t k))
    (h4 : v4 i = (gy : EReal)) (h6 : v6 i = (gx : EReal)) (h19 : v19 i = (aw : EReal)) (h31 : v31 i = (ah : EReal))
    (h42 : v42 i = ((t 4 : ℝ) : EReal)) (h48 : v48 i = ((t 3 : ℝ) : EReal)) (h54 : v54 i = ((t 2 : ℝ) : EReal))
    (h60 : v60 i = ((t 1 : ℝ) : EReal)) (h71 : v71 i = ((p 3 : ℝ) : EReal)) (h73 : v73 i = ((p 4 : ℝ) : EReal))
    (h78 : v78 i = ((sig (p 1) : ℝ) : EReal)) (h79 : v79 i = ((sig (p 2) : ℝ) : EReal)) :
    k0_pay41 v4 v6 v19 v31 v42 v48 v54 v60 v71 v73 v78 v79 i = ((boxTerm p t aw ah gx gy : ℝ) : EReal) := by
  unfold k0_pay41; pointwise
  rw [h4, h6, h19, h31, h42, h48, h54, h60, h71, h73, h78, h79, w_eps16, div_real haw.ne', div_real hah.ne']
  simp only [← EReal.coe_sub, ← EReal.coe_add]
  rw [log_real (ratio_pos (ht 3).nonneg haw), log_real (ratio_pos (ht 4).nonneg hah)]
  simp only [← EReal.coe_mul, ← EReal.coe_sub, ← EReal.coe_add]
  rfl

/-- The first eight exponentials of the class logits, added up. -/
theorem pay46_at {q5 q6 q7 q8 q9 q10 q11 q12 : V5}
    (h5 : q5 (ix5 0 (i 0) (i 1) (i 2) (i 3)) = ((p 5 : ℝ) : EReal)) (h6 : q6 (ix5 0 (i 0) (i 1) (i 2) (i 3)) = ((p 6 : ℝ) : EReal))
    (h7 : q7 (ix5 0 (i 0) (i 1) (i 2) (i 3)) = ((p 7 : ℝ) : EReal)) (h8 : q8 (ix5 0 (i 0) (i 1) (i 2) (i 3)) = ((p 8 : ℝ) : EReal))
    (h9 : q9 (ix5 0 (i 0) (i 1) (i 2) (i 3)) = ((p 9 : ℝ) : EReal)) (h10 : q10 (ix5 0 (i 0) (i 1) (i 2) (i 3)) = ((p 10 : ℝ) : EReal))
    (h11 : q11 (ix5 0 (i 0) (i 1) (i 2) (i 3)) = ((p 11 : ℝ) : EReal)) (h12 : q12 (ix5 0 (i 0) (i 1) (i 2) (i 3)) = ((p 12 : ℝ) : EReal)) :
    k0_pay46 (k0_pay44 q5) (k0_pay45 q6) q7 q8 q9 q10 q11 q12 i
      = ((Real.exp (p 5) + Real.exp (p 6) + Real.exp (p 7) + Real.exp (p 8) + Real.exp (p 9) + Real.exp (p 10)
    + Real.exp (p 11) + Real.exp (p 12) : ℝ) : EReal) := by
  unfold k0_pay46 k0_pay44 k0_pay45 k0_pay42 k0_pay43; pointwise
  rw [h5, h6, h7, h8, h9, h10, h11, h12]
  simp only [Ideal.exp_coe, EReal.coe_add]

theorem pay47_at {v75 : IVec S4x3x52x52 1} {v77 : V4} (h75 : v75 i = if t 0 = 1 then 1#1 else 0#1)
    (h77 : v77 i = ((softplus (p 0) : ℝ) : EReal)) : k0_pay47 v75 v77 i = ((termB p t : ℝ) : EReal) := by
  unfold k0_pay47 termB; pointwise
  rw [h75, h77]
  by_cases h : t 0 = 1
  · simp [h, Scalar.select]
  · simp [h, Scalar.select]

theorem pay48_at {v75 : IVec S4x3x52x52 1} (h75 : v75 i = if t 0 = 1 then 1#1 else 0#1) :
    k0_pay48 (F := Ideal) v75 i = ((termO t : ℝ) : EReal) := by
  unfold k0_pay48 termO; pointwise
  rw [h75]
  show (((BitVec.setWidth 32 (if t 0 = 1 then 1#1 else 0#1)).toInt : ℝ) : EReal) = _
  by_cases h : t 0 = 1
  · simp [h]
  · simp [h]

/-- The first accumulator plane's new contents at a cell: what it held, and the cell's term. -/
theorem pay49_at {v36 : V4} {v75 : IVec S4x3x52x52 1} {v129 v150 v152 v154 v181 : V4} {q13 q14 q15 acc : V5}
    (a : Fin 4) (b : Fin 3) (y x : Fin 52)
    (h36 : v36 (ix4 a b y x) = ((t 5 : ℝ) : EReal)) (h75 : v75 (ix4 a b y x) = if t 0 = 1 then 1#1 else 0#1)
    (h129 : v129 (ix4 a b y x) = ((objTerm p t aw ah gx gy : ℝ) : EReal))
    (h150 : v150 (ix4 a b y x) = ((boxTerm p t aw ah gx gy : ℝ) : EReal))
    (h152 : v152 (ix4 a b y x) = ((p 5 : ℝ) : EReal)) (h154 : v154 (ix4 a b y x) = ((p 6 : ℝ) : EReal))
    (h181 : v181 (ix4 a b y x) = ((Real.exp (p 5) + Real.exp (p 6) + Real.exp (p 7) + Real.exp (p 8) + Real.exp (p 9)
    + Real.exp (p 10) + Real.exp (p 11) + Real.exp (p 12) : ℝ) : EReal))
    (h13 : q13 (ix5 0 a b y x) = ((p 13 : ℝ) : EReal)) (h14 : q14 (ix5 0 a b y x) = ((p 14 : ℝ) : EReal))
    (h15 : q15 (ix5 0 a b y x) = ((p 15 : ℝ) : EReal)) :
    k0_pay49 v36 v75 v129 v150 v152 v154 v181 q13 q14 q15 acc (ix5 0 a b y x)
      = (acc (ix5 0 a b y x) + ((termA p t aw ah gx gy : ℝ) : EReal) : EReal) := by
  unfold k0_pay49; pointwise
  rw [h36, h75, h129, h150, h152, h154, h181, h13, h14, h15, w_5half]
  simp only [Ideal.exp_coe, ← EReal.coe_add]
  have e := log_real (expSum_pos (p := p))
  unfold expSum at e
  rw [e]
  simp only [← EReal.coe_sub, ← EReal.coe_mul, ← EReal.coe_add]
  congr 1
  unfold termA
  by_cases h : t 0 = 1
  · simp only [h, if_true]; rfl
  · simp only [h, if_false]; rfl

/-- The second plane's, -/
theorem pay1_at {v206 : V4} {acc : V5} {r : ℝ} (a : Fin 4) (b : Fin 3) (y x : Fin 52) (h : v206 (ix4 a b y x) = (r : EReal)) :
    k0_pay1 v206 acc (ix5 0 a b y x) = (acc (ix5 0 a b y x) + (r : EReal) : EReal) := by
  unfold k0_pay1; pointwise; rw [h]
/-- and the third plane's. -/
theorem pay2_at {v208 : V4} {acc : V5} {r : ℝ} (a : Fin 4) (b : Fin 3) (y x : Fin 52) (h : v208 (ix4 a b y x) = (r : EReal)) :
    k0_pay2 v208 acc (ix5 0 a b y x) = (acc (ix5 0 a b y x) + (r : EReal) : EReal) := by
  unfold k0_pay2; pointwise; rw [h]

theorem pay4_at (i : S3x4x3x52x52.Idx) : k0_pay4 (F := Ideal) i = ((0 : ℝ) : EReal) := by
  unfold k0_pay4; pointwise; exact EReal.coe_zero.symm

/-- The grid row of a cell, as a number; -/
theorem pay5_at (a : Fin 4) (b : Fin 3) (y x : Fin 52) : k0_pay5 (F := Ideal) (ix4 a b y x) = ((y.val : ℝ) : EReal) := by
  unfold k0_pay5; pointwise
  show (((BitVec.ofNat 32 y.val).toInt : ℝ) : EReal) = _
  rw [show (BitVec.ofNat 32 y.val).toInt = (y.val : ℤ) by fin_cases y <;> rfl]; simp
/-- its column; -/
theorem pay6_at (a : Fin 4) (b : Fin 3) (y x : Fin 52) : k0_pay6 (F := Ideal) (ix4 a b y x) = ((x.val : ℝ) : EReal) := by
  unfold k0_pay6; pointwise
  show (((BitVec.ofNat 32 x.val).toInt : ℝ) : EReal) = _
  rw [show (BitVec.ofNat 32 x.val).toInt = (x.val : ℤ) by fin_cases x <;> rfl]; simp
/-- its anchor's width; -/
theorem pay7_at (f : Fin 3 → ℝ) (a : Fin 4) (b : Fin 3) (y x : Fin 52) :
    k0_pay7 (F := Ideal) (f 0 : EReal) (f 1 : EReal) (f 2 : EReal) (ix4 a b y x) = ((f b : ℝ) : EReal) := by
  unfold k0_pay7; pointwise
  fin_cases b <;> rfl
/-- and its anchor's height. -/
theorem pay8_at (f : Fin 3 → ℝ) (a : Fin 4) (b : Fin 3) (y x : Fin 52) :
    k0_pay8 (F := Ideal) (f 0 : EReal) (f 1 : EReal) (f 2 : EReal) (ix4 a b y x) = ((f b : ℝ) : EReal) := by
  unfold k0_pay8; pointwise
  fin_cases b <;> rfl

end Cert.Yolo
end
-- ==== Proof.KernelBody.lean ====
/- One grid point's work, whatever the accumulator held before: the three accumulator planes it leaves, read at a
   cell, are what they held plus the cell's terms. -/
module

public import proofs.«01_k».proof.Proof.Gen.KernelIdeal.Value
public import proofs.«01_k».proof.Proof.KernelCell
public import Idealize.ShloMosaic.Lib.Pipeline.ValueKit
public import Idealize.ShloMosaic.Lib.Pipeline.ReadBack

@[expose] public section
set_option maxRecDepth 16384
noncomputable section
namespace Cert.Yolo
open Cert.KernelIdeal Cert.KernelIdeal.Gen Idealize.ShloMosaic Idealize.ShloMosaic.TcCoe Idealize.SL.Sem

section Body
variable (x0 : Vec Ideal S3x2 EltTy.f32) (x1 : Vec Ideal S16x4x3x52x52 EltTy.f32) (x2 : Vec Ideal S4x3x52x52 EltTy.f32)
  (xs : Vec Ideal S3x4x3x52x52 EltTy.f32)

/-- The anchors' widths, one per cell; -/
def bodyAw : V4 := k0_pay7 (View.ld x0 (Rect.unit (s := S3x2) ![0, 0] ![1, 1] inb_S3x2_S1x1_0_0) (Shape.Idx.first (h := by decide))) (View.ld x0 (Rect.unit (s := S3x2) ![1, 0] ![1, 1] inb_S3x2_S1x1_1_0) (Shape.Idx.first (h := by decide))) (View.ld x0 (Rect.unit (s := S3x2) ![2, 0] ![1, 1] inb_S3x2_S1x1_2_0) (Shape.Idx.first (h := by decide)))
/-- and their heights. -/
def bodyAh : V4 := k0_pay8 (View.ld x0 (Rect.unit (s := S3x2) ![0, 1] ![1, 1] inb_S3x2_S1x1_0_1) (Shape.Idx.first (h := by decide))) (View.ld x0 (Rect.unit (s := S3x2) ![1, 1] ![1, 1] inb_S3x2_S1x1_1_1) (Shape.Idx.first (h := by decide))) (View.ld x0 (Rect.unit (s := S3x2) ![2, 1] ![1, 1] inb_S3x2_S1x1_2_1) (Shape.Idx.first (h := by decide)))
/-- The mask of the cells that hold an object. -/
def bodyObj : IVec S4x3x52x52 1 := k0_pay26 (F := Ideal) (k0_pay20 (k0_pay9 x2) k0_pay10)
/-- The objectness losses. -/
def bodyObjTerm : V4 :=
  k0_pay40 (k0_pay13 (k0_pay9 x2) k0_pay10) (k0_pay15 (k0_pay9 x2) k0_pay10) (k0_pay21 (View.ld x1 (Rect.unit (s := S16x4x3x52x52) ![0, 0, 0, 0, 0] ![1, 4, 3, 52, 52] inb_S16x4x3x52x52_S1x4x3x52x52_0_0_0_0_0))) (k0_pay27 (k0_pay21 (View.ld x1 (Rect.unit (s := S16x4x3x52x52) ![0, 0, 0, 0, 0] ![1, 4, 3, 52, 52] inb_S16x4x3x52x52_S1x4x3x52x52_0_0_0_0_0))))
    (k0_pay32 (bodyAw x0) (View.ld x1 (Rect.unit (s := S16x4x3x52x52) ![3, 0, 0, 0, 0] ![1, 4, 3, 52, 52] inb_S16x4x3x52x52_S1x4x3x52x52_3_0_0_0_0))) (k0_pay33 (bodyAh x0) (View.ld x1 (Rect.unit (s := S16x4x3x52x52) ![4, 0, 0, 0, 0] ![1, 4, 3, 52, 52] inb_S16x4x3x52x52_S1x4x3x52x52_4_0_0_0_0))) (k0_pay34 k0_pay5 (bodyAh x0) (k0_pay23 (View.ld x1 (Rect.unit (s := S16x4x3x52x52) ![2, 0, 0, 0, 0] ![1, 4, 3, 52, 52] inb_S16x4x3x52x52_S1x4x3x52x52_2_0_0_0_0))) (View.ld x1 (Rect.unit (s := S16x4x3x52x52) ![4, 0, 0, 0, 0] ![1, 4, 3, 52, 52] inb_S16x4x3x52x52_S1x4x3x52x52_4_0_0_0_0)))
    (k0_pay35 k0_pay5 (bodyAh x0) (k0_pay23 (View.ld x1 (Rect.unit (s := S16x4x3x52x52) ![2, 0, 0, 0, 0] ![1, 4, 3, 52, 52] inb_S16x4x3x52x52_S1x4x3x52x52_2_0_0_0_0))) (View.ld x1 (Rect.unit (s := S16x4x3x52x52) ![4, 0, 0, 0, 0] ![1, 4, 3, 52, 52] inb_S16x4x3x52x52_S1x4x3x52x52_4_0_0_0_0))) (k0_pay36 (k0_pay13 (k0_pay9 x2) k0_pay10) (k0_pay17 (k0_pay9 x2) k0_pay10))
    (k0_pay37 (k0_pay13 (k0_pay9 x2) k0_pay10) (k0_pay17 (k0_pay9 x2) k0_pay10))
    (k0_pay38 k0_pay6 (bodyAw x0) (k0_pay15 (k0_pay9 x2) k0_pay10) (k0_pay19 (k0_pay9 x2) k0_pay10) (k0_pay22 (View.ld x1 (Rect.unit (s := S16x4x3x52x52) ![1, 0, 0, 0, 0] ![1, 4, 3, 52, 52] inb_S16x4x3x52x52_S1x4x3x52x52_1_0_0_0_0))) (View.ld x1 (Rect.unit (s := S16x4x3x52x52) ![3, 0, 0, 0, 0] ![1, 4, 3, 52, 52] inb_S16x4x3x52x52_S1x4x3x52x52_3_0_0_0_0)))
    (k0_pay39 k0_pay6 (bodyAw x0) (k0_pay15 (k0_pay9 x2) k0_pay10) (k0_pay19 (k0_pay9 x2) k0_pay10) (k0_pay22 (View.ld x1 (Rect.unit (s := S16x4x3x52x52) ![1, 0, 0, 0, 0] ![1, 4, 3, 52, 52] inb_S16x4x3x52x52_S1x4x3x52x52_1_0_0_0_0))) (View.ld x1 (Rect.unit (s := S16x4x3x52x52) ![3, 0, 0, 0, 0] ![1, 4, 3, 52, 52] inb_S16x4x3x52x52_S1x4x3x52x52_3_0_0_0_0)))
/-- The squared coordinate errors. -/
def bodyBoxTerm : V4 :=
  k0_pay41 k0_pay5 k0_pay6 (bodyAw x0) (bodyAh x0) (k0_pay13 (k0_pay9 x2) k0_pay10) (k0_pay15 (k0_pay9 x2) k0_pay10)
    (k0_pay17 (k0_pay9 x2) k0_pay10) (k0_pay19 (k0_pay9 x2) k0_pay10) (k0_pay24 (View.ld x1 (Rect.unit (s := S16x4x3x52x52) ![3, 0, 0, 0, 0] ![1, 4, 3, 52, 52] inb_S16x4x3x52x52_S1x4x3x52x52_3_0_0_0_0))) (k0_pay25 (View.ld x1 (Rect.unit (s := S16x4x3x52x52) ![4, 0, 0, 0, 0] ![1, 4, 3, 52, 52] inb_S16x4x3x52x52_S1x4x3x52x52_4_0_0_0_0)))
    (k0_pay28 (k0_pay22 (View.ld x1 (Rect.unit (s := S16x4x3x52x52) ![1, 0, 0, 0, 0] ![1, 4, 3, 52, 52] inb_S16x4x3x52x52_S1x4x3x52x52_1_0_0_0_0)))) (k0_pay29 (k0_pay23 (View.ld x1 (Rect.unit (s := S16x4x3x52x52) ![2, 0, 0, 0, 0] ![1, 4, 3, 52, 52] inb_S16x4x3x52x52_S1x4x3x52x52_2_0_0_0_0))))
/-- The accumulator's first plane after the point; -/
def bodyA : V5 :=
  k0_pay49 (k0_pay11 (k0_pay9 x2) k0_pay10) (bodyObj x2) (bodyObjTerm x0 x1 x2) (bodyBoxTerm x0 x1 x2)
    (k0_pay42 (View.ld x1 (Rect.unit (s := S16x4x3x52x52) ![5, 0, 0, 0, 0] ![1, 4, 3, 52, 52] inb_S16x4x3x52x52_S1x4x3x52x52_5_0_0_0_0))) (k0_pay43 (View.ld x1 (Rect.unit (s := S16x4x3x52x52) ![6, 0, 0, 0, 0] ![1, 4, 3, 52, 52] inb_S16x4x3x52x52_S1x4x3x52x52_6_0_0_0_0))) (k0_pay46 (k0_pay44 (View.ld x1 (Rect.unit (s := S16x4x3x52x52) ![5, 0, 0, 0, 0] ![1, 4, 3, 52, 52] inb_S16x4x3x52x52_S1x4x3x52x52_5_0_0_0_0))) (k0_pay45 (View.ld x1 (Rect.unit (s := S16x4x3x52x52) ![6, 0, 0, 0, 0] ![1, 4, 3, 52, 52] inb_S16x4x3x52x52_S1x4x3x52x52_6_0_0_0_0))) (View.ld x1 (Rect.unit (s := S16x4x3x52x52) ![7, 0, 0, 0, 0] ![1, 4, 3, 52, 52] inb_S16x4x3x52x52_S1x4x3x52x52_7_0_0_0_0)) (View.ld x1 (Rect.unit (s := S16x4x3x52x52) ![8, 0, 0, 0, 0] ![1, 4, 3, 52, 52] inb_S16x4x3x52x52_S1x4x3x52x52_8_0_0_0_0)) (View.ld x1 (Rect.unit (s := S16x4x3x52x52) ![9, 0, 0, 0, 0] ![1, 4, 3, 52, 52] inb_S16x4x3x52x52_S1x4x3x52x52_9_0_0_0_0)) (View.ld x1 (Rect.unit (s := S16x4x3x52x52) ![10, 0, 0, 0, 0] ![1, 4, 3, 52, 52] inb_S16x4x3x52x52_S1x4x3x52x52_10_0_0_0_0)) (View.ld x1 (Rect.unit (s := S16x4x3x52x52) ![11, 0, 0, 0, 0] ![1, 4, 3, 52, 52] inb_S16x4x3x52x52_S1x4x3x52x52_11_0_0_0_0)) (View.ld x1 (Rect.unit (s := S16x4x3x52x52) ![12, 0, 0, 0, 0] ![1, 4, 3, 52, 52] inb_S16x4x3x52x52_S1x4x3x52x52_12_0_0_0_0))) (View.ld x1 (Rect.unit (s := S16x4x3x52x52) ![13, 0, 0, 0, 0] ![1, 4, 3, 52, 52] inb_S16x4x3x52x52_S1x4x3x52x52_13_0_0_0_0)) (View.ld x1 (Rect.unit (s := S16x4x3x52x52) ![14, 0, 0, 0, 0] ![1, 4, 3, 52, 52] inb_S16x4x3x52x52_S1x4x3x52x52_14_0_0_0_0)) (View.ld x1 (Rect.unit (s := S16x4x3x52x52) ![15, 0, 0, 0, 0] ![1, 4, 3, 52, 52] inb_S16x4x3x52x52_S1x4x3x52x52_15_0_0_0_0))
    (View.ld xs (Rect.unit (s := S3x4x3x52x52) ![0, 0, 0, 0, 0] ![1, 4, 3, 52, 52] inb_S3x4x3x52x52_S1x4x3x52x52_0_0_0_0_0))
/-- its second; -/
def bodyB : V5 := k0_pay1 (k0_pay47 (bodyObj x2) (k0_pay27 (k0_pay21 (View.ld x1 (Rect.unit (s := S16x4x3x52x52) ![0, 0, 0, 0, 0] ![1, 4, 3, 52, 52] inb_S16x4x3x52x52_S1x4x3x52x52_0_0_0_0_0))))) (View.ld xs (Rect.unit (s := S3x4x3x52x52) ![1, 0, 0, 0, 0] ![1, 4, 3, 52, 52] inb_S3x4x3x52x52_S1x4x3x52x52_1_0_0_0_0))
/-- its third. -/
def bodyO : V5 := k0_pay2 (k0_pay48 (F := Ideal) (bodyObj x2)) (View.ld xs (Rect.unit (s := S3x4x3x52x52) ![2, 0, 0, 0, 0] ![1, 4, 3, 52, 52] inb_S3x4x3x52x52_S1x4x3x52x52_2_0_0_0_0))
end Body

section Points
variable (m : (ℓ : Loc nD τ Cert.KernelIdeal.sig) → Buf (Elt Ideal) ℓ)

/-- The accumulator's three planes, last written first. -/
def pieces (A B O : V5) : List (View.Piece (Elt Ideal) S3x4x3x52x52 EltTy.f32) :=
  [⟨Rect.unit ![2, 0, 0, 0, 0] ![1, 4, 3, 52, 52] inb_S3x4x3x52x52_S1x4x3x52x52_2_0_0_0_0, O⟩,
   ⟨Rect.unit ![1, 0, 0, 0, 0] ![1, 4, 3, 52, 52] inb_S3x4x3x52x52_S1x4x3x52x52_1_0_0_0_0, B⟩,
   ⟨Rect.unit ![0, 0, 0, 0, 0] ![1, 4, 3, 52, 52] inb_S3x4x3x52x52_S1x4x3x52x52_0_0_0_0_0, A⟩]

/-- What the first grid point leaves in the accumulator: its planes over a zeroed array. -/
theorem after_first (c : Dev nD) (t : Fin cfg0.N) (h0 : t.val % 16 = 0) (h1 : ¬t.val % 16 = 15) :
    ∃ L, (outsAt0 m c t.val t.isLt).2 = View.canon (pieces
      (bodyA (iblk m c 0 t) (iblk m c 1 t) (iblk m c 2 t) (k0_pay4 (F := Ideal))) (bodyB (iblk m c 1 t) (iblk m c 2 t) (k0_pay4 (F := Ideal)))
      (bodyO (iblk m c 2 t) (k0_pay4 (F := Ideal))) ++ L) := by
  rw [outsAt0_A m c t h0 h1]
  dsimp only
  frame_open
  simp (disch := decide) only [↓ View.readCov_skip, ↓ View.readCov_cons_toLoadRect, ↓ View.readCov_fill]
  frame_out
  exact ⟨_, rfl⟩

/-- What a later point leaves. -/
theorem after_middle (c : Dev nD) (t : Fin cfg0.N) (h0 : ¬t.val % 16 = 0) (h1 : ¬t.val % 16 = 15) :
    (outsAt0 m c t.val t.isLt).2 = View.canon (pieces
      (bodyA (iblk m c 0 t) (iblk m c 1 t) (iblk m c 2 t) (outsAt0 m c (t.val - 1) (Nat.lt_of_le_of_lt (Nat.sub_le _ _) t.isLt)).2)
      (bodyB (iblk m c 1 t) (iblk m c 2 t) (outsAt0 m c (t.val - 1) (Nat.lt_of_le_of_lt (Nat.sub_le _ _) t.isLt)).2)
      (bodyO (iblk m c 2 t) (outsAt0 m c (t.val - 1) (Nat.lt_of_le_of_lt (Nat.sub_le _ _) t.isLt)).2)) := by
  rw [outsAt0_B m c t h0 h1]
  dsimp only
  frame_open
  simp (disch := decide) only [↓ View.readCov_skip, ↓ View.readCov_cons_toLoadRect, ↓ View.readCov_fill]
  frame_out
  simp only [read_unread_whole]
  rfl

/-- The result that the last point writes, from its three planes. -/
theorem out_last (c : Dev nD) (t : Fin cfg0.N) (h0 : ¬t.val % 16 = 0) (h1 : t.val % 16 = 15) (y : S1x1.Idx) :
    (outsAt0 m c t.val t.isLt).1 y = k0_pay3 (F := Ideal)
      (bodyA (iblk m c 0 t) (iblk m c 1 t) (iblk m c 2 t) (outsAt0 m c (t.val - 1) (Nat.lt_of_le_of_lt (Nat.sub_le _ _) t.isLt)).2)
      (bodyB (iblk m c 1 t) (iblk m c 2 t) (outsAt0 m c (t.val - 1) (Nat.lt_of_le_of_lt (Nat.sub_le _ _) t.isLt)).2)
      (bodyO (iblk m c 2 t) (outsAt0 m c (t.val - 1) (Nat.lt_of_le_of_lt (Nat.sub_le _ _) t.isLt)).2) := by
  rw [outsAt0_C m c t h0 h1]
  dsimp only
  frame_open
  simp (disch := decide) only [↓ View.readCov_skip, ↓ View.readCov_cons_toLoadRect, ↓ View.readCov_fill]
  frame_out
  simp only [read_unread_whole]
  rfl

end Points

/-- The planes read at a cell: plane `2`, -/
theorem pieces_at2 (A B O : V5) (L : List (View.Piece (Elt Ideal) S3x4x3x52x52 EltTy.f32)) (a : Fin 4) (b : Fin 3) (y x : Fin 52) :
    View.canon (pieces A B O ++ L) (ix5 2 a b y x) = O (ix5 0 a b y x) := by
  have he : (ix5 2 a b y x : S3x4x3x52x52.Idx)
      = (Rect.unit ![2, 0, 0, 0, 0] ![1, 4, 3, 52, 52] inb_S3x4x3x52x52_S1x4x3x52x52_2_0_0_0_0).emb (ix5 0 a b y x) := by
    funext d; apply Fin.ext; rw [Rect.emb_apply]; fin_cases d <;> simp [Rect.unit, ix5]
  rw [he]; exact View.canon_cons_emb ..

/-- plane `1`, -/
theorem pieces_at1 (A B O : V5) (L : List (View.Piece (Elt Ideal) S3x4x3x52x52 EltTy.f32)) (a : Fin 4) (b : Fin 3) (y x : Fin 52) :
    View.canon (pieces A B O ++ L) (ix5 1 a b y x) = B (ix5 0 a b y x) := by
  have he : (ix5 1 a b y x : S3x4x3x52x52.Idx)
      = (Rect.unit ![1, 0, 0, 0, 0] ![1, 4, 3, 52, 52] inb_S3x4x3x52x52_S1x4x3x52x52_1_0_0_0_0).emb (ix5 0 a b y x) := by
    funext d; apply Fin.ext; rw [Rect.emb_apply]; fin_cases d <;> simp [Rect.unit, ix5]
  refine (View.canon_cons_of_not_mem _ _ ?_).trans ?_
  · rw [Rect.mem_set_unit]; intro h; have := h 0; simp [ix5] at this
  · rw [he]; exact View.canon_cons_emb ..

/-- plane `0`. -/
theorem pieces_at0 (A B O : V5) (L : List (View.Piece (Elt Ideal) S3x4x3x52x52 EltTy.f32)) (a : Fin 4) (b : Fin 3) (y x : Fin 52) :
    View.canon (pieces A B O ++ L) (ix5 0 a b y x) = A (ix5 0 a b y x) := by
  have he : (ix5 0 a b y x : S3x4x3x52x52.Idx)
      = (Rect.unit ![0, 0, 0, 0, 0] ![1, 4, 3, 52, 52] inb_S3x4x3x52x52_S1x4x3x52x52_0_0_0_0_0).emb (ix5 0 a b y x) := by
    funext d; apply Fin.ext; rw [Rect.emb_apply]; fin_cases d <;> simp [Rect.unit, ix5]
  refine (View.canon_cons_of_not_mem _ _ ?_).trans ((View.canon_cons_of_not_mem _ _ ?_).trans ?_)
  · rw [Rect.mem_set_unit]; intro h; have := h 0; simp [ix5] at this
  · rw [Rect.mem_set_unit]; intro h; have := h 0; simp [ix5] at this
  · rw [he]; exact View.canon_cons_emb ..

section AtCell
variable {x0 : Vec Ideal S3x2 EltTy.f32} {x1 : Vec Ideal S16x4x3x52x52 EltTy.f32} {x2 : Vec Ideal S4x3x52x52 EltTy.f32}
  {xs : Vec Ideal S3x4x3x52x52 EltTy.f32} {A : Fin 3 → Fin 2 → ℝ} {p : Fin 16 → ℝ} {t : Fin 6 → ℝ}

/-- A load of plane `j` of the predictions reads that plane; -/
theorem ld_plane (j : Fin 16) (inb) (a : Fin 4) (b : Fin 3) (y x : Fin 52) :
    View.ld x1 (Rect.unit (s := S16x4x3x52x52) ![j.val, 0, 0, 0, 0] ![1, 4, 3, 52, 52] inb) (ix5 0 a b y x) = x1 (ix5 j a b y x) :=
  View.ld_unit_apply_of _ _ _ _ _ _ fun d => by fin_cases d <;> simp [ix5]
/-- a load of plane `k` of the accumulator that one; -/
theorem ld_acc (k : Fin 3) (inb) (a : Fin 4) (b : Fin 3) (y x : Fin 52) :
    View.ld xs (Rect.unit (s := S3x4x3x52x52) ![k.val, 0, 0, 0, 0] ![1, 4, 3, 52, 52] inb) (ix5 0 a b y x) = xs (ix5 k a b y x) :=
  View.ld_unit_apply_of _ _ _ _ _ _ fun d => by fin_cases d <;> simp [ix5]
/-- a load of an anchor's side that number. -/
theorem ld_anchor (r : Fin 3) (k : Fin 2) (inb) (h) :
    View.ld x0 (Rect.unit (s := S3x2) ![r.val, k.val] ![1, 1] inb) (Shape.Idx.first (h := h)) = x0 (ix2 r k) :=
  View.ld_unit_apply_of _ _ _ _ _ _ fun d => by fin_cases d <;> simp [ix2, Shape.Idx.first]

theorem pay9_at (i : S4x3x52x52.Idx) : k0_pay9 x2 i = x2 i := by unfold k0_pay9; pointwise
theorem pay21_at (q : V5) (a : Fin 4) (b : Fin 3) (y x : Fin 52) : k0_pay21 q (ix4 a b y x) = q (ix5 0 a b y x) := by
  unfold k0_pay21; pointwise
theorem pay22_at (q : V5) (a : Fin 4) (b : Fin 3) (y x : Fin 52) : k0_pay22 q (ix4 a b y x) = q (ix5 0 a b y x) := by
  unfold k0_pay22; pointwise
theorem pay23_at (q : V5) (a : Fin 4) (b : Fin 3) (y x : Fin 52) : k0_pay23 q (ix4 a b y x) = q (ix5 0 a b y x) := by
  unfold k0_pay23; pointwise
theorem pay24_at (q : V5) (a : Fin 4) (b : Fin 3) (y x : Fin 52) : k0_pay24 q (ix4 a b y x) = q (ix5 0 a b y x) := by
  unfold k0_pay24; pointwise
theorem pay25_at (q : V5) (a : Fin 4) (b : Fin 3) (y x : Fin 52) : k0_pay25 q (ix4 a b y x) = q (ix5 0 a b y x) := by
  unfold k0_pay25; pointwise
theorem pay42_at (q : V5) (a : Fin 4) (b : Fin 3) (y x : Fin 52) : k0_pay42 q (ix4 a b y x) = q (ix5 0 a b y x) := by
  unfold k0_pay42; pointwise
theorem pay43_at (q : V5) (a : Fin 4) (b : Fin 3) (y x : Fin 52) : k0_pay43 q (ix4 a b y x) = q (ix5 0 a b y x) := by
  unfold k0_pay43; pointwise

variable (hA : ∀ a k, x0 (ix2 a k) = ((A a k : ℝ) : EReal)) (hpos : ∀ a k, 0 < A a k) (ht : ∀ k, IsBit (t k))
  (a : Fin 4) (b : Fin 3) (y x : Fin 52)
  (hp : ∀ j, x1 (ix5 j a b y x) = ((p j : ℝ) : EReal)) (h2 : x2 (ix4 a b y x) = ((packed t : ℝ) : EReal))

include hA in
theorem bodyAw_at : bodyAw x0 (ix4 a b y x) = ((A b 0 : ℝ) : EReal) := by
  have h := pay7_at (fun r => A r 0) a b y x
  simp only [← hA] at h ⊢
  rw [← h]
  unfold bodyAw
  exact congrFun (congr (congr (congrArg _ (ld_anchor 0 0 _ _)) (ld_anchor 1 0 _ _)) (ld_anchor 2 0 _ _)) _
include hA in
theorem bodyAh_at : bodyAh x0 (ix4 a b y x) = ((A b 1 : ℝ) : EReal) := by
  have h := pay8_at (fun r => A r 1) a b y x
  simp only [← hA] at h ⊢
  rw [← h]
  unfold bodyAh
  exact congrFun (congr (congr (congrArg _ (ld_anchor 0 1 _ _)) (ld_anchor 1 1 _ _)) (ld_anchor 2 1 _ _)) _

include h2 in
theorem unpacked : k0_pay9 x2 (ix4 a b y x) = ((packed t : ℝ) : EReal) := (pay9_at _).trans h2

include ht h2 in
theorem bodyObj_at : bodyObj x2 (ix4 a b y x) = if t 0 = 1 then 1#1 else 0#1 :=
  pay26_at (pay20_at ht (unpacked a b y x h2) pay10_at)

include hp in
/-- Plane `j` of the predictions, loaded. -/
theorem pl_at (j : Fin 16) (inb) :
    View.ld x1 (Rect.unit (s := S16x4x3x52x52) ![j.val, 0, 0, 0, 0] ![1, 4, 3, 52, 52] inb) (ix5 0 a b y x) = ((p j : ℝ) : EReal) :=
  (ld_plane j inb a b y x).trans (hp j)

include hA hpos ht hp h2 in
theorem bodyObjTerm_at : bodyObjTerm x0 x1 x2 (ix4 a b y x) = ((objTerm p t (A b 0) (A b 1) x.val y.val : ℝ) : EReal) := by
  have hu := unpacked a b y x h2
  have hc := pay10_at (i := ix4 a b y x)
  have q0 := (pay21_at _ a b y x).trans (pl_at a b y x hp 0 inb_S16x4x3x52x52_S1x4x3x52x52_0_0_0_0_0)
  have q1 := (pay22_at _ a b y x).trans (pl_at a b y x hp 1 inb_S16x4x3x52x52_S1x4x3x52x52_1_0_0_0_0)
  have q2 := (pay23_at _ a b y x).trans (pl_at a b y x hp 2 inb_S16x4x3x52x52_S1x4x3x52x52_2_0_0_0_0)
  have q3 := (pay24_at _ a b y x).trans (pl_at a b y x hp 3 inb_S16x4x3x52x52_S1x4x3x52x52_3_0_0_0_0)
  have q4 := (pay25_at _ a b y x).trans (pl_at a b y x hp 4 inb_S16x4x3x52x52_S1x4x3x52x52_4_0_0_0_0)
  have w := bodyAw_at hA a b y x
  have h := bodyAh_at hA a b y x
  exact pay40_at (hpos b 0) (hpos b 1) ht (pay13_at ht hu hc) (pay15_at ht hu hc) q0 (pay27_at q0) (pay32_at w q3)
    (pay33_at h q4) (pay34_at (pay5_at a b y x) h q2 q4) (pay35_at (pay5_at a b y x) h q2 q4)
    (pay36_at (pay13_at ht hu hc) (pay17_at ht hu hc)) (pay37_at (pay13_at ht hu hc) (pay17_at ht hu hc))
    (pay38_at (pay6_at a b y x) w (pay15_at ht hu hc) (pay19_at ht hu hc) q1 q3)
    (pay39_at (pay6_at a b y x) w (pay15_at ht hu hc) (pay19_at ht hu hc) q1 q3)

include hA hpos ht hp h2 in
theorem bodyBoxTerm_at : bodyBoxTerm x0 x1 x2 (ix4 a b y x) = ((boxTerm p t (A b 0) (A b 1) x.val y.val : ℝ) : EReal) := by
  have hu := unpacked a b y x h2
  have hc := pay10_at (i := ix4 a b y x)
  have q1 := (pay22_at _ a b y x).trans (pl_at a b y x hp 1 inb_S16x4x3x52x52_S1x4x3x52x52_1_0_0_0_0)
  have q2 := (pay23_at _ a b y x).trans (pl_at a b y x hp 2 inb_S16x4x3x52x52_S1x4x3x52x52_2_0_0_0_0)
  have q3 := (pay24_at _ a b y x).trans (pl_at a b y x hp 3 inb_S16x4x3x52x52_S1x4x3x52x52_3_0_0_0_0)
  have q4 := (pay25_at _ a b y x).trans (pl_at a b y x hp 4 inb_S16x4x3x52x52_S1x4x3x52x52_4_0_0_0_0)
  exact pay41_at (hpos b 0) (hpos b 1) ht (pay5_at a b y x) (pay6_at a b y x) (bodyAw_at hA a b y x) (bodyAh_at hA a b y x)
    (pay13_at ht hu hc) (pay15_at ht hu hc) (pay17_at ht hu hc) (pay19_at ht hu hc) q3 q4 (pay28_at q1) (pay29_at q2)

include hA hpos ht hp h2 in
/-- The first accumulator plane gains the loss terms of a cell that holds an object; -/
theorem bodyA_at : bodyA x0 x1 x2 xs (ix5 0 a b y x)
    = (xs (ix5 0 a b y x) + ((termA p t (A b 0) (A b 1) x.val y.val : ℝ) : EReal) : EReal) := by
  have hu := unpacked a b y x h2
  have hc := pay10_at (i := ix4 a b y x)
  rw [← ld_acc (xs := xs) 0 inb_S3x4x3x52x52_S1x4x3x52x52_0_0_0_0_0 a b y x]
  exact pay49_at a b y x (pay11_at ht hu hc) (bodyObj_at ht a b y x h2) (bodyObjTerm_at hA hpos ht a b y x hp h2)
    (bodyBoxTerm_at hA hpos ht a b y x hp h2)
    ((pay42_at _ a b y x).trans (pl_at a b y x hp 5 _)) ((pay43_at _ a b y x).trans (pl_at a b y x hp 6 _))
    (pay46_at (i := ix4 a b y x) (pl_at a b y x hp 5 _) (pl_at a b y x hp 6 _) (pl_at a b y x hp 7 _) (pl_at a b y x hp 8 _)
      (pl_at a b y x hp 9 _) (pl_at a b y x hp 10 _) (pl_at a b y x hp 11 _) (pl_at a b y x hp 12 _))
    (pl_at a b y x hp 13 _) (pl_at a b y x hp 14 _) (pl_at a b y x hp 15 _)

include ht hp h2 in
/-- the second gains the loss of a cell that holds none; -/
theorem bodyB_at : bodyB x1 x2 xs (ix5 0 a b y x) = (xs (ix5 1 a b y x) + ((termB p t : ℝ) : EReal) : EReal) := by
  rw [← ld_acc (xs := xs) 1 inb_S3x4x3x52x52_S1x4x3x52x52_1_0_0_0_0 a b y x]
  exact pay1_at a b y x (pay47_at (bodyObj_at ht a b y x h2) (pay27_at ((pay21_at _ a b y x).trans (pl_at a b y x hp 0 _))))

include ht h2 in
/-- the third counts the cells that hold one. -/
theorem bodyO_at : bodyO x2 xs (ix5 0 a b y x) = (xs (ix5 2 a b y x) + ((termO t : ℝ) : EReal) : EReal) := by
  rw [← ld_acc (xs := xs) 2 inb_S3x4x3x52x52_S1x4x3x52x52_2_0_0_0_0 a b y x]
  exact pay2_at a b y x (pay48_at (bodyObj_at ht a b y x h2))
end AtCell

end Cert.Yolo
end
-- ==== Proof.KernelBlocks.lean ====
/- What the kernel's grid points read: the blocks of its three operands, at an index, in terms of the launch's arrays. -/
module

public import proofs.«01_k».proof.Proof.Gen.KernelIdeal.Value
public import proofs.«01_k».proof.Proof.Cell
public import Idealize.ShloMosaic.Lib.Pipeline.ValueKit

@[expose] public section
set_option maxRecDepth 16384
noncomputable section
namespace Cert.Yolo
open Cert.KernelIdeal Cert.KernelIdeal.Gen Idealize.ShloMosaic Idealize.ShloMosaic.TcCoe Idealize.SL.Sem

variable (m : (ℓ : Loc nD τ Cert.KernelIdeal.sig) → Buf (Elt Ideal) ℓ) (c : Dev nD)

/-- Batch `a` of the four that grid point `n` works on. -/
def batch (n : ℕ) (hn : n < 16) (a : Fin 4) : Fin 64 := ⟨n * 4 + a.val, by omega⟩

theorem lt16 (t : Fin cfg0.N) : t.val < 16 := lt_of_lt_of_eq t.isLt (show cfg0.N = 16 from N_0)

theorem index1 : ∀ t : Fin grid0.N, win0_1.index t = ![0, t.val, 0, 0, 0] := by decide +kernel
theorem index2 : ∀ t : Fin grid0.N, win0_2.index t = ![t.val, 0, 0, 0] := by decide +kernel
theorem index0 : ∀ t : Fin grid0.N, win0_0.index t = ![0, 0] := by decide +kernel

/-- The anchors' block is the anchors. -/
theorem iblk0_at (t : Fin cfg0.N) (r : Fin 3) (k : Fin 2) :
    iblk m c 0 t (ix2 r k) = m ((c : Thread nD τ).loc main_arg2) (ix2 r k) := by
  blk_point [iblk, V, index0 t]

/-- The predictions' block at point `t`, plane `j` first. -/
theorem iblk1_at (t : Fin cfg0.N) (j : Fin 16) (a : Fin 4) (b : Fin 3) (y x : Fin 52) :
    iblk m c 1 t (ix5 j a b y x) = m ((c : Thread nD τ).loc main_arg0) (ix5 (batch t.val (lt16 t) a) b y x j) := by
  blk_simp [iblk]
  entry_read
  pointwise
  blk_ext [index1 t, batch]

/-- The packed targets' block at point `t`. -/
theorem iblk2_at (t : Fin cfg0.N) (a : Fin 4) (b : Fin 3) (y x : Fin 52) (T : Fin 6 → ℝ)
    (hT : ∀ k, m ((c : Thread nD τ).loc main_arg1) (ix5 (batch t.val (lt16 t) a) b y x k) = ((T k : ℝ) : EReal)) :
    iblk m c 2 t (ix4 a b y x) = ((packed T : ℝ) : EReal) := by
  blk_simp [iblk]
  entry_read
  pointwise
  have he : ∀ k : Fin 6, m (c, Proc.tc.devRef main_arg1)
      (ix5 (((View.whole main_v1).slice (win0_2.rect t)).emb (ix4 a b y x) 0)
        (((View.whole main_v1).slice (win0_2.rect t)).emb (ix4 a b y x) 1)
        (((View.whole main_v1).slice (win0_2.rect t)).emb (ix4 a b y x) 2)
        (((View.whole main_v1).slice (win0_2.rect t)).emb (ix4 a b y x) 3) k) = ((T k : ℝ) : EReal) := fun k => by
    rw [← hT k]
    blk_ext [index2 t, batch]
  simp only [he, Fin.sum_univ_six]
  rw [show lit0 (S6.rowMajor (ix1 0)) = 0x3F800000#32 from by decide, show lit0 (S6.rowMajor (ix1 1)) = 0x40000000#32 from by decide,
    show lit0 (S6.rowMajor (ix1 2)) = 0x40800000#32 from by decide, show lit0 (S6.rowMajor (ix1 3)) = 0x41000000#32 from by decide,
    show lit0 (S6.rowMajor (ix1 4)) = 0x41800000#32 from by decide, show lit0 (S6.rowMajor (ix1 5)) = 0x42000000#32 from by decide,
    w_1, w_2, w_4, w_8, w_16, w_32]
  simp only [← EReal.coe_mul, ← EReal.coe_add]
  unfold packed
  rw [mul_one]
end Cert.Yolo
end
-- ==== Proof.KernelValue.lean ====
/- The kernel's result: after the last grid point the three accumulator planes hold, cell by cell, the sums of the four
   batches' terms over all sixteen points, and the one number written is the quotients of their totals. -/
module

public import proofs.«01_k».proof.Proof.KernelBody
public import proofs.«01_k».proof.Proof.KernelBlocks

@[expose] public section
set_option maxRecDepth 16384
noncomputable section
namespace Cert.Yolo
open Cert.KernelIdeal Cert.KernelIdeal.Gen Idealize.ShloMosaic Idealize.ShloMosaic.TcCoe Idealize.SL.Sem

/-- A number per cell of the grid: batch, anchor, row, column. -/
abbrev Cells := Fin 64 → Fin 3 → Fin 52 → Fin 52 → ℝ

/-- The sum over all cells. -/
def total (g : Cells) : ℝ := ∑ n : Fin 64, ∑ b : Fin 3, ∑ y : Fin 52, ∑ x : Fin 52, g n b y x

/-- The loss terms of the cells that hold an object, -/
def cellsA (P : Fin 64 → Fin 3 → Fin 52 → Fin 52 → Fin 16 → ℝ) (T : Fin 64 → Fin 3 → Fin 52 → Fin 52 → Fin 6 → ℝ)
    (A : Fin 3 → Fin 2 → ℝ) : Cells := fun n b y x => termA (P n b y x) (T n b y x) (A b 0) (A b 1) x.val y.val
/-- the loss of those that hold none, -/
def cellsB (P : Fin 64 → Fin 3 → Fin 52 → Fin 52 → Fin 16 → ℝ) (T : Fin 64 → Fin 3 → Fin 52 → Fin 52 → Fin 6 → ℝ) : Cells :=
  fun n b y x => termB (P n b y x) (T n b y x)
/-- and the indicator of the first kind. -/
def cellsO (T : Fin 64 → Fin 3 → Fin 52 → Fin 52 → Fin 6 → ℝ) : Cells := fun n b y x => termO (T n b y x)

/-- What grid point `s` adds at a cell of its block. -/
def addend (g : Cells) (s : ℕ) (a : Fin 4) (b : Fin 3) (y x : Fin 52) : ℝ := if h : s < 16 then g (batch s h a) b y x else 0

theorem addend_lt (g : Cells) (s : ℕ) (h : s < 16) (a : Fin 4) (b : Fin 3) (y x : Fin 52) :
    addend g s a b y x = g (batch s h a) b y x := dif_pos h

theorem sums_swap (F : ℕ → Fin 4 → Fin 3 → Fin 52 → Fin 52 → ℝ) (n : ℕ) :
    ∑ a, ∑ b, ∑ y, ∑ x, ∑ s ∈ Finset.range n, F s a b y x = ∑ s ∈ Finset.range n, ∑ a, ∑ b, ∑ y, ∑ x, F s a b y x := by
  induction n with
  | zero => simp
  | succ n ih => simp only [Finset.sum_range_succ, Finset.sum_add_distrib, ih]

/-- The sixteen points' addends over the cells of a block are the sum over all cells. -/
theorem sum_addend (g : Cells) : ∑ a, ∑ b, ∑ y, ∑ x, ∑ s ∈ Finset.range 16, addend g s a b y x = total g := by
  rw [sums_swap, Finset.sum_range]
  unfold total
  refine Eq.trans ?_ (Fin.sum_mul_add_fin 16 4 (fun n : Fin 64 => ∑ b : Fin 3, ∑ y : Fin 52, ∑ x : Fin 52, g n b y x))
  refine Finset.sum_congr rfl fun s _ => Finset.sum_congr rfl fun a _ => Finset.sum_congr rfl fun b _ =>
    Finset.sum_congr rfl fun y _ => Finset.sum_congr rfl fun x _ => addend_lt g s.val s.isLt a b y x

/-- The total of an accumulator plane whose cells are known reals. -/
theorem plane_total (q : V5) (g : Fin 4 → Fin 3 → Fin 52 → Fin 52 → ℝ)
    (hq : ∀ a b y x, q (ix5 0 a b y x) = ((g a b y x : ℝ) : EReal)) :
    Ideal.reduceAdd reduces_S1x4x3x52x52_S1 q (ix1 0) = ((∑ a, ∑ b, ∑ y, ∑ x, g a b y x : ℝ) : EReal) := by
  rw [Ideal.reduceAdd_total _ (by decide), Idealize.ShloMosaic.sum_idx5]
  simp only [Fin.sum_univ_one, hq, sum_real, Fin.isValue]

/-- The last point's result from the three totals. -/
theorem pay3_at (q r s : V5) : k0_pay3 (F := Ideal) q r s
    = (Ideal.div (Ideal.reduceAdd reduces_S1x4x3x52x52_S1 q (ix1 0)) (Ideal.reduceAdd reduces_S1x4x3x52x52_S1 s (ix1 0))
      + Ideal.div (Ideal.ofBits .f32 0x41200000#32 * Ideal.reduceAdd reduces_S1x4x3x52x52_S1 r (ix1 0))
        (Ideal.ofBits .f32 0x48FD8000#32 - Ideal.reduceAdd reduces_S1x4x3x52x52_S1 s (ix1 0)) : EReal) := by
  unfold k0_pay3
  pointwise

section
variable (m : (ℓ : Loc nD τ Cert.KernelIdeal.sig) → Buf (Elt Ideal) ℓ) (c : Dev nD)
  {P : Fin 64 → Fin 3 → Fin 52 → Fin 52 → Fin 16 → ℝ} {T : Fin 64 → Fin 3 → Fin 52 → Fin 52 → Fin 6 → ℝ} {A : Fin 3 → Fin 2 → ℝ}
  (hP : ∀ n b y x j, m ((c : Thread nD τ).loc main_arg0) (ix5 n b y x j) = ((P n b y x j : ℝ) : EReal))
  (hT : ∀ n b y x j, m ((c : Thread nD τ).loc main_arg1) (ix5 n b y x j) = ((T n b y x j : ℝ) : EReal))
  (hA : ∀ r k, m ((c : Thread nD τ).loc main_arg2) (ix2 r k) = ((A r k : ℝ) : EReal))
  (hbit : ∀ n b y x j, IsBit (T n b y x j)) (hpos : ∀ r k, 0 < A r k)

include hP hT hA hbit hpos in
/-- What point `t` makes of the first accumulator plane, -/
theorem pointA (t : Fin cfg0.N) (xs : Vec Ideal S3x4x3x52x52 EltTy.f32) (a : Fin 4) (b : Fin 3) (y x : Fin 52) :
    bodyA (iblk m c 0 t) (iblk m c 1 t) (iblk m c 2 t) xs (ix5 0 a b y x)
      = (xs (ix5 0 a b y x) + ((addend (cellsA P T A) t.val a b y x : ℝ) : EReal) : EReal) := by
  rw [addend_lt _ _ (lt16 t)]
  exact bodyA_at (fun r k => (iblk0_at m c t r k).trans (hA r k)) hpos (hbit _ b y x) a b y x
    (fun j => (iblk1_at m c t j a b y x).trans (hP _ b y x j)) (iblk2_at m c t a b y x _ (hT _ b y x))

include hP hT hbit in
/-- of the second, -/
theorem pointB (t : Fin cfg0.N) (xs : Vec Ideal S3x4x3x52x52 EltTy.f32) (a : Fin 4) (b : Fin 3) (y x : Fin 52) :
    bodyB (iblk m c 1 t) (iblk m c 2 t) xs (ix5 0 a b y x)
      = (xs (ix5 1 a b y x) + ((addend (cellsB P T) t.val a b y x : ℝ) : EReal) : EReal) := by
  rw [addend_lt _ _ (lt16 t)]
  exact bodyB_at (hbit _ b y x) a b y x
    (fun j => (iblk1_at m c t j a b y x).trans (hP _ b y x j)) (iblk2_at m c t a b y x _ (hT _ b y x))

include hT hbit in
/-- of the third. -/
theorem pointO (t : Fin cfg0.N) (xs : Vec Ideal S3x4x3x52x52 EltTy.f32) (a : Fin 4) (b : Fin 3) (y x : Fin 52) :
    bodyO (iblk m c 2 t) xs (ix5 0 a b y x)
      = (xs (ix5 2 a b y x) + ((addend (cellsO T) t.val a b y x : ℝ) : EReal) : EReal) := by
  rw [addend_lt _ _ (lt16 t)]
  exact bodyO_at (hbit _ b y x) a b y x (iblk2_at m c t a b y x _ (hT _ b y x))

include hP hT hA hbit hpos in
/-- Before the last point the accumulator holds the sums of the points so far. -/
theorem acc_at (a : Fin 4) (b : Fin 3) (y x : Fin 52) : ∀ (n : ℕ) (hn : n < cfg0.N), n < 15 →
    (outsAt0 m c n hn).2 (ix5 0 a b y x) = ((∑ s ∈ Finset.range (n + 1), addend (cellsA P T A) s a b y x : ℝ) : EReal)
    ∧ (outsAt0 m c n hn).2 (ix5 1 a b y x) = ((∑ s ∈ Finset.range (n + 1), addend (cellsB P T) s a b y x : ℝ) : EReal)
    ∧ (outsAt0 m c n hn).2 (ix5 2 a b y x) = ((∑ s ∈ Finset.range (n + 1), addend (cellsO T) s a b y x : ℝ) : EReal)
  | 0, hn, _ => by
    obtain ⟨L, hL⟩ := after_first m c ⟨0, hn⟩ rfl (by show ¬0 % 16 = 15; decide)
    have hL' : (outsAt0 m c 0 hn).2 = _ := hL
    rw [hL', pieces_at0, pieces_at1, pieces_at2, pointA m c hP hT hA hbit hpos, pointB m c hP hT hbit, pointO m c hT hbit]
    simp only [pay4_at, ← EReal.coe_add, zero_add, Finset.sum_range_one, and_self]
  | n + 1, hn, h15 => by
    have hL : (outsAt0 m c (n + 1) hn).2 = _ := after_middle m c ⟨n + 1, hn⟩
      (by show ¬(n + 1) % 16 = 0; omega) (by show ¬(n + 1) % 16 = 15; omega)
    obtain ⟨i0, i1, i2⟩ := acc_at a b y x n (Nat.lt_of_succ_lt hn) (by omega)
    rw [hL, ← List.append_nil (pieces _ _ _), pieces_at0, pieces_at1, pieces_at2, pointA m c hP hT hA hbit hpos,
      pointB m c hP hT hbit, pointO m c hT hbit]
    show ((outsAt0 m c n _).2 _ + _ : EReal) = _ ∧ ((outsAt0 m c n _).2 _ + _ : EReal) = _
      ∧ ((outsAt0 m c n _).2 _ + _ : EReal) = _
    rw [i0, i1, i2, ← EReal.coe_add, ← EReal.coe_add, ← EReal.coe_add, Finset.sum_range_succ _ (n + 1),
      Finset.sum_range_succ _ (n + 1), Finset.sum_range_succ _ (n + 1)]
    exact ⟨rfl, rfl, rfl⟩

/-- The kernel's number from the three totals. -/
def quotients (SA SB N : ℝ) : EReal :=
  Ideal.div (SA : EReal) (N : EReal) + Ideal.div ((10 * SB : ℝ) : EReal) ((519168 - N : ℝ) : EReal)

include hP hT hA hbit hpos in
/-- After the last point's additions the three planes hold the sums of all sixteen points. -/
theorem last_at (t : Fin cfg0.N) (h : t.val = 15) (hb : t.val - 1 < cfg0.N) (a : Fin 4) (b : Fin 3) (y x : Fin 52) :
    bodyA (iblk m c 0 t) (iblk m c 1 t) (iblk m c 2 t) (outsAt0 m c (t.val - 1) hb).2 (ix5 0 a b y x)
      = ((∑ s ∈ Finset.range 16, addend (cellsA P T A) s a b y x : ℝ) : EReal)
    ∧ bodyB (iblk m c 1 t) (iblk m c 2 t) (outsAt0 m c (t.val - 1) hb).2 (ix5 0 a b y x)
      = ((∑ s ∈ Finset.range 16, addend (cellsB P T) s a b y x : ℝ) : EReal)
    ∧ bodyO (iblk m c 2 t) (outsAt0 m c (t.val - 1) hb).2 (ix5 0 a b y x)
      = ((∑ s ∈ Finset.range 16, addend (cellsO T) s a b y x : ℝ) : EReal) := by
  obtain ⟨i0, i1, i2⟩ := acc_at m c hP hT hA hbit hpos a b y x (t.val - 1) hb (by omega)
  have e : t.val - 1 + 1 = 15 := by omega
  rw [pointA m c hP hT hA hbit hpos, pointB m c hP hT hbit, pointO m c hT hbit, i0, i1, i2, e, h, ← EReal.coe_add,
    ← EReal.coe_add, ← EReal.coe_add, Finset.sum_range_succ _ 15, Finset.sum_range_succ _ 15, Finset.sum_range_succ _ 15]
  exact ⟨rfl, rfl, rfl⟩

include hP hT hA hbit hpos in
/-- The number that the last point writes. -/
theorem out_at (t : Fin cfg0.N) (h : t.val = 15) (i : S1x1.Idx) : (outsAt0 m c t.val t.isLt).1 i
    = quotients (total (cellsA P T A)) (total (cellsB P T)) (total (cellsO T)) := by
  have hb : t.val - 1 < cfg0.N := Nat.lt_of_le_of_lt (Nat.sub_le _ _) t.isLt
  have l := last_at m c hP hT hA hbit hpos t h hb
  rw [out_last m c t (by omega) (by omega) i, pay3_at,
    plane_total _ _ fun a b y x => (l a b y x).1, plane_total _ _ fun a b y x => (l a b y x).2.1,
    plane_total _ _ fun a b y x => (l a b y x).2.2, sum_addend, sum_addend, sum_addend, w_10, w_cells, ← EReal.coe_mul,
    ← EReal.coe_sub]
  rfl

include hP hT hA hbit hpos in
/-- The kernel's result array after the run. -/
theorem result_at : (dats m 0 c).arrAt 3 cfg0.N
    = fun _ => quotients (total (cellsA P T A)) (total (cellsB P T)) (total (cellsO T)) := by
  refine (dats m 0 c).arrAt_eq_of_after_last 3 t0_15 (by decide +kernel) _ fun j => ?_
  rw [after0_3]
  exact out_at m c hP hT hA hbit hpos t0_15 rfl _
end

end Cert.Yolo
end
-- ==== Proof.RefValue.lean ====
/- The reference's result in the reals: every sum over the grid is a real total, and the result is five quotients of those
   totals. -/
module

public import proofs.«01_k».proof.Proof.RefClass
public import proofs.«01_k».proof.Proof.KernelValue

@[expose] public section
set_option maxRecDepth 16384
noncomputable section
namespace Cert.Yolo
open Cert.ReferenceIdeal Cert.ReferenceIdeal.Read Idealize.ShloMosaic Idealize.ShloMosaic.TcCoe Idealize.SL.Sem

/-- Predictions, targets and anchors as real numbers. -/
abbrev Preds := Fin 64 → Fin 3 → Fin 52 → Fin 52 → Fin 16 → ℝ
abbrev Targets := Fin 64 → Fin 3 → Fin 52 → Fin 52 → Fin 6 → ℝ
abbrev Anchors := Fin 3 → Fin 2 → ℝ

/-- The box losses of the cells that hold an object, -/
def cellsBox (P : Preds) (T : Targets) (A : Anchors) : Cells :=
  fun n b y x => boxTerm (P n b y x) (T n b y x) (A b 0) (A b 1) x.val y.val * termO (T n b y x)
/-- their objectness losses, -/
def cellsObj (P : Preds) (T : Targets) (A : Anchors) : Cells :=
  fun n b y x => objTerm (P n b y x) (T n b y x) (A b 0) (A b 1) x.val y.val * termO (T n b y x)
/-- their class losses, -/
def cellsCls (P : Preds) (T : Targets) : Cells := fun n b y x => clsTerm (P n b y x) (T n b y x) * termO (T n b y x)
/-- and the indicator of the cells that hold none. -/
def cellsNone (T : Targets) : Cells := fun n b y x => if T n b y x 0 = 1 then 0 else 1

/-- A sum over the grid's indices of known reals is their total. -/
theorem grid_total (f : S64x3x52x52.Idx → EReal) (g : Cells) (h : ∀ n b y x, f (ix4 n b y x) = ((g n b y x : ℝ) : EReal)) :
    ∑ j : S64x3x52x52.Idx, f j = ((total g : ℝ) : EReal) := by
  rw [Idealize.ShloMosaic.sum_idx4]
  simp only [h, sum_real]
  rfl

variable {x0 : Arr0} {x1 : Arr1} {x2 : Arr2} {P : Preds} {T : Targets} {A : Anchors}
  (h0 : ∀ n b y x k, x0 (ix5 n b y x k) = ((P n b y x k : ℝ) : EReal)) (h1 : ∀ n b y x k, x1 (ix5 n b y x k) = ((T n b y x k : ℝ) : EReal))
  (hA : ∀ r k, x2 (ix2 r k) = ((A r k : ℝ) : EReal)) (ht : ∀ n b y x k, IsBit (T n b y x k)) (hpos : ∀ r k, 0 < A r k)

/-- A sum that starts at the float word 0. -/
theorem from_zero (a : EReal) : Ideal.ofBits .f32 0x00000000#32 + a = a := by rw [w_0, EReal.coe_zero, zero_add]

include h1 ht in
theorem v8_at (i : S_.Idx) : val_main_v8 (F := Ideal) x1 i = ((total (cellsO T) : ℝ) : EReal) := by
  rw [val_main_v8_apply]
  exact (from_zero _).trans (grid_total _ _ fun n b y x => v4_at (h1 n b y x) (ht n b y x))

include h1 ht in
theorem v9_at (i : S_.Idx) : val_main_v9 (F := Ideal) x1 i = ((total (cellsNone T) : ℝ) : EReal) := by
  rw [val_main_v9_apply]
  exact (from_zero _).trans (grid_total _ _ fun n b y x => v7_at (h1 n b y x) (ht n b y x))

include h0 h1 ht in
theorem v29_at (i : S_.Idx) : val_main_v29 (F := Ideal) x0 x1 i = ((total (cellsB P T) : ℝ) : EReal) := by
  rw [val_main_v29_apply]
  refine (from_zero _).trans (grid_total _ _ fun n b y x => ?_)
  have e1 := v27_at (h0 n b y x)
  have e2 := v7_at (h1 n b y x) (ht n b y x)
  unfold val_main_v28
  pointwise
  rw [e1, e2, ← EReal.coe_mul]
  unfold cellsB termB
  split_ifs <;> simp

include h0 h1 hA ht hpos in
theorem v141_at (i : S_.Idx) : val_main_v141 (F := Ideal) x0 x1 x2 i = ((total (cellsObj P T A) : ℝ) : EReal) := by
  rw [val_main_v141_apply]
  refine (from_zero _).trans (grid_total _ _ fun n b y x => ?_)
  have e1 := v139_at (h0 n b y x) (h1 n b y x) hA (ht n b y x) hpos
  have e2 := v4_at (h1 n b y x) (ht n b y x)
  unfold val_main_v140
  pointwise
  rw [e1, e2, ← EReal.coe_mul]
  rfl

include h0 h1 hA ht hpos in
theorem v169_at (i : S_.Idx) : val_main_v169 (F := Ideal) x0 x1 x2 i = ((total (cellsBox P T A) : ℝ) : EReal) := by
  rw [val_main_v169_apply]
  refine (from_zero _).trans (grid_total _ _ fun n b y x => ?_)
  have e1 := v167_at (h0 n b y x) (h1 n b y x) hA (ht n b y x) hpos
  have e2 := v4_at (h1 n b y x) (ht n b y x)
  unfold val_main_v168
  pointwise
  rw [e1, e2, ← EReal.coe_mul]
  rfl

include h0 h1 ht in
theorem v190_at (i : S_.Idx) : val_main_v190 (F := Ideal) x0 x1 i = ((total (cellsCls P T) : ℝ) : EReal) := by
  rw [val_main_v190_apply]
  refine (from_zero _).trans (grid_total _ _ fun n b y x => ?_)
  have e1 := v188_at h0 h1 ht n b y x
  have e2 := v4_at (h1 n b y x) (ht n b y x)
  unfold val_main_v189
  pointwise
  rw [e1, e2, ← EReal.coe_mul]
  rfl

/-- The reference's result from its five totals and the count of empty cells. -/
def mixed (Sbox Sobj SB Scls N M : ℝ) : EReal :=
  (10 : ℝ) * Ideal.div (Sbox : EReal) ((N * 4 : ℝ) : EReal) + Ideal.div (Sobj : EReal) (N : EReal)
    + (10 : ℝ) * Ideal.div (SB : EReal) (M : EReal) + Ideal.div (Scls : EReal) (N : EReal)

include h0 h1 hA ht hpos in
/-- The reference's result. -/
theorem v197_at : val_main_v197 (F := Ideal) x0 x1 x2 = fun _ => mixed (total (cellsBox P T A)) (total (cellsObj P T A))
    (total (cellsB P T)) (total (cellsCls P T)) (total (cellsO T)) (total (cellsNone T)) := by
  funext j
  have e (i : S_.Idx) : val_main_v196 (F := Ideal) x0 x1 x2 i = mixed (total (cellsBox P T A)) (total (cellsObj P T A))
      (total (cellsB P T)) (total (cellsCls P T)) (total (cellsO T)) (total (cellsNone T)) := by
    have e1 := v8_at h1 ht i
    have e2 := v9_at h1 ht i
    have e3 := v29_at h0 h1 ht i
    have e4 := v141_at h0 h1 hA ht hpos i
    have e5 := v169_at h0 h1 hA ht hpos i
    have e6 := v190_at h0 h1 ht i
    rw [val_main_v196_apply, val_main_v195_apply, val_main_v194_apply, val_main_v193_apply, val_main_v192_apply, val_main_v191_apply,
      val_main_v171_apply, val_main_v170_apply, val_main_v142_apply, val_main_v30_apply, e1, e2, e3, e4, e5, e6]
    have c1 : val_main_cst_29 (F := Ideal) i = ((10 : ℝ) : EReal) := w_10
    have c2 : val_main_cst_30 (F := Ideal) i = ((10 : ℝ) : EReal) := w_10
    have c3 : val_main_cst_25 (F := Ideal) i = ((4 : ℝ) : EReal) := w_4
    rw [c1, c2, c3]
    simp only [Ideal.mulf_def, Ideal.addf_def, Ideal.divf_def, ← EReal.coe_mul]
    rfl
  unfold val_main_v197
  exact e _
end Cert.Yolo
end
-- ==== Proof.Equation.lean ====
/- The two results are the same extended real: the kernel's one quotient for the cells that hold an object is the reference's
   three, the count of the empty cells is the number of cells less the count of the others, and a quotient of 0 by 0 drags
   either result to the same `⊥`. -/
module

public import proofs.«01_k».proof.Proof.RefValue

@[expose] public section
set_option maxRecDepth 16384
noncomputable section
namespace Cert.Yolo
open Idealize.ShloMosaic

theorem total_add (f g : Cells) : total (fun n b y x => f n b y x + g n b y x) = total f + total g := by
  simp only [total, Finset.sum_add_distrib]

theorem total_mul (c : ℝ) (f : Cells) : total (fun n b y x => c * f n b y x) = c * total f := by
  simp only [total, Finset.mul_sum]

theorem total_one : total (fun _ _ _ _ => 1) = 519168 := by
  simp [total]; norm_num

/-- A total of nonnegative numbers that is 0 has only zeros. -/
theorem total_zero {f : Cells} (hf : ∀ n b y x, 0 ≤ f n b y x) (h : total f = 0) (n : Fin 64) (b : Fin 3) (y x : Fin 52) :
    f n b y x = 0 := by
  unfold total at h
  have p1 (n b y) : 0 ≤ ∑ x, f n b y x := Finset.sum_nonneg fun _ _ => hf _ _ _ _
  have p2 (n b) : 0 ≤ ∑ y, ∑ x, f n b y x := Finset.sum_nonneg fun _ _ => p1 _ _ _
  have p3 (n) : 0 ≤ ∑ b, ∑ y, ∑ x, f n b y x := Finset.sum_nonneg fun _ _ => p2 _ _
  have q3 := (Finset.sum_eq_zero_iff_of_nonneg fun n _ => p3 n).1 h n (Finset.mem_univ _)
  have q2 := (Finset.sum_eq_zero_iff_of_nonneg fun b _ => p2 n b).1 q3 b (Finset.mem_univ _)
  have q1 := (Finset.sum_eq_zero_iff_of_nonneg fun y _ => p1 n b y).1 q2 y (Finset.mem_univ _)
  exact (Finset.sum_eq_zero_iff_of_nonneg fun x _ => hf n b y x).1 q1 x (Finset.mem_univ _)

theorem total_of_zero {f : Cells} (h : ∀ n b y x, f n b y x = 0) : total f = 0 := by
  simp only [total, h, Finset.sum_const_zero]

variable (P : Preds) (T : Targets) (A : Anchors)

/-- The kernel's one sum over the object cells is the reference's three, weighted. -/
theorem total_cellsA : total (cellsA P T A) = 5 / 2 * total (cellsBox P T A) + total (cellsObj P T A) + total (cellsCls P T) := by
  rw [← total_mul, ← total_add, ← total_add]
  congr 1
  funext n b y x
  unfold cellsA cellsBox cellsObj cellsCls termA termO
  split_ifs <;> ring

/-- The empty cells are the cells less the others. -/
theorem total_none : total (cellsNone T) = 519168 - total (cellsO T) := by
  rw [eq_sub_iff_add_eq, ← total_add, ← total_one]
  congr 1
  funext n b y x
  unfold cellsNone cellsO termO
  split_ifs <;> norm_num

theorem termO_nonneg (n : Fin 64) (b : Fin 3) (y x : Fin 52) : 0 ≤ cellsO T n b y x := by
  unfold cellsO termO; split_ifs <;> norm_num

/-- Without object cells the sums over them are 0. -/
theorem sums_zero (h : total (cellsO T) = 0) :
    total (cellsBox P T A) = 0 ∧ total (cellsObj P T A) = 0 ∧ total (cellsCls P T) = 0 := by
  have z (n b y x) : termO (T n b y x) = 0 := total_zero (termO_nonneg T) h n b y x
  refine ⟨total_of_zero fun n b y x => ?_, total_of_zero fun n b y x => ?_, total_of_zero fun n b y x => ?_⟩
  · unfold cellsBox; rw [z, mul_zero]
  · unfold cellsObj; rw [z, mul_zero]
  · unfold cellsCls; rw [z, mul_zero]

/-- Without empty cells the sum over them is 0. -/
theorem sumB_zero (h : total (cellsNone T) = 0) : total (cellsB P T) = 0 := by
  refine total_of_zero fun n b y x => ?_
  have z := total_zero (f := cellsNone T) (fun n b y x => by unfold cellsNone; split_ifs <;> norm_num) h n b y x
  unfold cellsNone at z
  unfold cellsB termB
  split_ifs with h1
  · rfl
  · rw [if_neg h1] at z; exact absurd z one_ne_zero

/-- The kernel's quotients are the reference's. -/
theorem results_agree : quotients (total (cellsA P T A)) (total (cellsB P T)) (total (cellsO T))
    = mixed (total (cellsBox P T A)) (total (cellsObj P T A)) (total (cellsB P T)) (total (cellsCls P T)) (total (cellsO T))
      (total (cellsNone T)) := by
  have hA := total_cellsA P T A
  have hM := total_none T
  have hz := sums_zero P T A
  have hB := sumB_zero P T
  have hten : ((10 : ℝ) : EReal) * ⊥ = ⊥ := EReal.coe_mul_bot_of_pos (by norm_num)
  generalize total (cellsA P T A) = SA at *
  generalize total (cellsBox P T A) = Sbox at *
  generalize total (cellsObj P T A) = Sobj at *
  generalize total (cellsCls P T) = Scls at *
  generalize total (cellsB P T) = SB at *
  generalize total (cellsO T) = N at *
  generalize total (cellsNone T) = M at *
  unfold quotients mixed
  rw [← hM]
  by_cases hN : N = 0
  · obtain ⟨r1, r2, r3⟩ := hz hN
    have r4 : SA = 0 := by rw [hA, r1, r2, r3]; norm_num
    rw [r1, r2, r3, r4, hN, zero_mul, div_zero_zero, hten]
    simp only [EReal.bot_add]
  by_cases hM0 : M = 0
  · rw [hB hM0, hM0, mul_zero, div_zero_zero, hten, EReal.add_bot, EReal.add_bot, EReal.bot_add]
  · rw [div_real hN, div_real hM0, div_real (mul_ne_zero hN (by norm_num)), div_real hN, div_real hM0, div_real hN]
    simp only [← EReal.coe_mul, ← EReal.coe_add]
    congr 1
    rw [hA]
    field_simp
    ring
end Cert.Yolo
end
-- ==== Proof.Domain.lean ====
/- What the precondition says of the arguments: every prediction is a real number, every target is 0 or 1, every anchor side is
   a positive real number. -/
module

public import proofs.«01_k».proof.Defs
public import proofs.«01_k».proof.Proof.Equation

@[expose] public section
set_option maxRecDepth 16384
noncomputable section
namespace Cert.Yolo
open Idealize.ShloMosaic

/-- The shapes the precondition's comparisons broadcast to. -/
theorem domain_facts : Cert.Pre_drawn.Facts where
  bcast_S_S64x3x52x52x16 := by decide
  bcast_S_S64x3x52x52x6 := by decide
  bcast_S_S3x2 := by decide

/-- An extended real whose absolute value is below `⊤` is a real. -/
theorem real_of_abs {a : EReal} (h : Ideal.cmp .olt (max a (-a)) (Ideal.ofBits .f32 0x7F800000#32) = 1#1) : ((a.toReal : ℝ) : EReal) = a := by
  have h' := (Ideal.cmp_olt_eq_one _ _).1 h
  rw [w_top, max_lt_iff] at h'
  refine EReal.coe_toReal h'.1.ne fun e => ?_
  rw [e, EReal.neg_bot] at h'
  exact lt_irrefl _ h'.2

/-- A word that is 0 or 1, by the two comparisons. -/
theorem bit_of_cmp {a : EReal} (h : IntOp.ori (Ideal.cmp .oeq a (Ideal.ofBits .f32 0x00000000#32)) (Ideal.cmp .oeq a (Ideal.ofBits .f32 0x3F800000#32)) = 1#1) :
    ((a.toReal : ℝ) : EReal) = a ∧ IsBit a.toReal := by
  rw [w_0, w_1, Ideal.cmp_oeq, Ideal.cmp_oeq] at h
  by_cases e0 : a = ((0 : ℝ) : EReal)
  · rw [e0]; exact ⟨rfl, Or.inl rfl⟩
  by_cases e1 : a = ((1 : ℝ) : EReal)
  · rw [e1]; exact ⟨rfl, Or.inr rfl⟩
  rw [decide_eq_false e0, decide_eq_false e1] at h
  exact absurd h (by decide)

/-- A positive real, by the two comparisons. -/
theorem pos_of_cmp {a : EReal} (h : IntOp.andi (Ideal.cmp .ogt a (Ideal.ofBits .f32 0x00000000#32)) (Ideal.cmp .olt a (Ideal.ofBits .f32 0x7F800000#32)) = 1#1) :
    ((a.toReal : ℝ) : EReal) = a ∧ 0 < a.toReal := by
  rw [w_0, w_top, Ideal.cmp_ogt, Ideal.cmp_olt] at h
  by_cases e0 : ((0 : ℝ) : EReal) < a
  · by_cases e1 : a < ⊤
    · have e : ((a.toReal : ℝ) : EReal) = a := EReal.coe_toReal e1.ne (lt_trans (EReal.bot_lt_coe 0) e0).ne'
      refine ⟨e, ?_⟩
      rw [← e] at e0
      exact EReal.coe_lt_coe_iff.1 e0
    · rw [decide_eq_false e1, decide_eq_true e0] at h
      exact absurd h (by decide)
  · rw [decide_eq_false e0] at h
    exact absurd h (by by_cases e1 : a < ⊤ <;> simp [e1] <;> decide)

section
local instance : Cert.Pre_drawn.Facts := domain_facts
variable {x0 : Arr0} {x1 : Arr1} {x2 : Arr2}

/-- Where the first condition holds everywhere the predictions are reals. -/
theorem real_preds (h : (Cert.Pre_drawn.fn (F := Ideal) x0 x1 x2).1 = fun _ => 1#1) (n : Fin 64) (b : Fin 3) (y x : Fin 52) (k : Fin 16) :
    x0 (ix5 n b y x k) = (((x0 (ix5 n b y x k)).toReal : ℝ) : EReal) :=
  (real_of_abs (congrFun h (ix5 n b y x k))).symm

/-- Where the second does the targets are 0 or 1. -/
theorem bit_targets (h : (Cert.Pre_drawn.fn (F := Ideal) x0 x1 x2).2.1 = fun _ => 1#1) (n : Fin 64) (b : Fin 3) (y x : Fin 52) (k : Fin 6) :
    ((x1 (ix5 n b y x k)).toReal : EReal) = x1 (ix5 n b y x k) ∧ IsBit (x1 (ix5 n b y x k)).toReal :=
  bit_of_cmp (congrFun h (ix5 n b y x k))

/-- Where the third does the anchor sides are positive reals. -/
theorem pos_anchors (h : (Cert.Pre_drawn.fn (F := Ideal) x0 x1 x2).2.2 = fun _ => 1#1) (r : Fin 3) (k : Fin 2) :
    ((x2 (ix2 r k)).toReal : EReal) = x2 (ix2 r k) ∧ 0 < (x2 (ix2 r k)).toReal :=
  pos_of_cmp (congrFun h (ix2 r k))
end
end Cert.Yolo
end
-- ==== Proof.lean ====
/- The certificate's claim: both programs run and leave their arguments and counters as they were, and at the ideal instance the
   kernel's result is the reference's on the drawn inputs. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Read
public import proofs.«01_k».proof.Proof.Gen.ReferenceIdeal
public import proofs.«01_k».proof.Proof.Domain
public import Idealize.ShloMosaic.Adequacy
public import Idealize.ShloMosaic.Init

@[expose] public section

set_option maxRecDepth 16384

noncomputable section

namespace Cert.Proof

open Idealize.ShloMosaic Idealize.SL.Sem Cert.Yolo

/-- The reference runs, its arguments end unchanged, and it declares no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The predictions, targets and anchors of a memory as real numbers. -/
def predsOf (x : Arr0) : Preds := fun n b y c k => (x (ix5 n b y c k)).toReal
def targetsOf (x : Arr1) : Targets := fun n b y c k => (x (ix5 n b y c k)).toReal
def anchorsOf (x : Arr2) : Anchors := fun r k => (x (ix2 r k)).toReal

/-- The reference's result as a function of the three argument arrays. -/
def resultOf (x0 : Arr0) (x1 : Arr1) (x2 : Arr2) : EReal :=
  mixed (total (cellsBox (predsOf x0) (targetsOf x1) (anchorsOf x2))) (total (cellsObj (predsOf x0) (targetsOf x1) (anchorsOf x2)))
    (total (cellsB (predsOf x0) (targetsOf x1))) (total (cellsCls (predsOf x0) (targetsOf x1))) (total (cellsO (targetsOf x1)))
    (total (cellsNone (targetsOf x1)))

/-- The drawn inputs: what the precondition says of the three arrays of one device. -/
def Drawn (x0 : Arr0) (x1 : Arr1) (x2 : Arr2) : Prop :=
  (∀ n b y x k, x0 (ix5 n b y x k) = ((predsOf x0 n b y x k : ℝ) : EReal)) ∧ (∀ n b y x k, x1 (ix5 n b y x k) = ((targetsOf x1 n b y x k : ℝ) : EReal))
    ∧ (∀ r k, x2 (ix2 r k) = ((anchorsOf x2 r k : ℝ) : EReal)) ∧ (∀ n b y x k, IsBit (targetsOf x1 n b y x k)) ∧ ∀ r k, 0 < anchorsOf x2 r k

theorem drawn_of_pre (m : (ℓ : Loc Cert.KernelIdeal.nD Cert.KernelIdeal.τ Cert.KernelIdeal.sig) → Buf (Elt Ideal) ℓ)
    (h : Cert.Pre_KernelIdeal_drawn (hPre_drawn := domain_facts) m) (c : Dev Cert.KernelIdeal.nD) :
    Drawn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) :=
  ⟨real_preds (h c).1, fun n b y x k => (bit_targets (h c).2.1 n b y x k).1.symm, fun r k => (pos_anchors (h c).2.2 r k).1.symm,
    fun n b y x k => (bit_targets (h c).2.1 n b y x k).2, fun r k => (pos_anchors (h c).2.2 r k).2⟩

/-- On drawn inputs the reference's result buffer ends at `resultOf` of its arguments. -/
theorem reference_result {x0 : Arr0} {x1 : Arr1} {x2 : Arr2} (h : Drawn x0 x1 x2) :
    Cert.ReferenceIdeal.Read.val_main_v197 (F := Ideal) x0 x1 x2 = fun _ => resultOf x0 x1 x2 :=
  v197_at h.1 h.2.1 h.2.2.1 h.2.2.2.1 h.2.2.2.2

/-- On drawn inputs the kernel's and the reference's results agree. -/
theorem algebraic : Cert.algebraic_KernelIdeal_ReferenceIdeal_pre_drawn (hKernelIdeal := Cert.KernelIdeal.Gen.facts)
    (hReferenceIdeal := Cert.ReferenceIdeal.Gen.facts) (hPre_drawn := domain_facts) := by
  intro m ρ m' ρ' hpre hagree
  refine ⟨fun c => fun _ => resultOf (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩) (Cert.KernelIdeal.Value.run_blocks m ρ)
    obtain ⟨h0, h1, h2, hb, hp⟩ := drawn_of_pre m hpre c
    refine (result_at m c h0 h1 h2 hb hp).trans ?_
    funext _
    exact results_agree _ _ _
  · refine (θ_run Cert.ReferenceIdeal.defs _ _).mono (fun r h c => ⟨(h c).1.trans ?_, (h c).2⟩) (Cert.ReferenceIdeal.Value.run (F := Ideal) m' ρ')
    have hd := drawn_of_pre m hpre c
    refine (Cert.ReferenceIdeal.Read.val_main_v197_eq (Idealize.ShloMosaic.StableHlo.launchContents m' c)).trans ?_
    obtain ⟨e0, e1, e2⟩ := hagree c
    show Cert.ReferenceIdeal.Read.val_main_v197 (F := Ideal) (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2)) = _
    rw [e0, e1, e2]
    exact reference_result hd

/-- Everything the certificate claims. -/
theorem claim : Cert.Claim := ⟨Cert.Kernel.Gen.facts, Cert.KernelIdeal.Gen.facts, Cert.ReferenceIdeal.Gen.facts, domain_facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  trivial,
  algebraic⟩

end Cert.Proof

end
